-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32000 : Shape := ⟨2, ![1024, 32000]⟩
abbrev S32000x2000 : Shape := ⟨2, ![32000, 2000]⟩
abbrev S2000 : Shape := ⟨1, ![2000]⟩
abbrev S2000x1000 : Shape := ⟨2, ![2000, 1000]⟩
abbrev S1000 : Shape := ⟨1, ![1000]⟩
abbrev S1000x2000 : Shape := ⟨2, ![1000, 2000]⟩
abbrev S1000x500 : Shape := ⟨2, ![1000, 500]⟩
abbrev S500 : Shape := ⟨1, ![500]⟩
abbrev S1x2000 : Shape := ⟨2, ![1, 2000]⟩
abbrev S1x1000 : Shape := ⟨2, ![1, 1000]⟩
abbrev S1x500 : Shape := ⟨2, ![1, 500]⟩
abbrev S1024x2000 : Shape := ⟨2, ![1024, 2000]⟩
abbrev S256x1280 : Shape := ⟨2, ![256, 1280]⟩
abbrev S256x2000 : Shape := ⟨2, ![256, 2000]⟩
abbrev S256x256 : Shape := ⟨2, ![256, 256]⟩
abbrev S1024x2500 : Shape := ⟨2, ![1024, 2500]⟩
abbrev S1024x1000 : Shape := ⟨2, ![1024, 1000]⟩
abbrev S1024x500 : Shape := ⟨2, ![1024, 500]⟩

abbrev nBuf : Space → Nat
  | .hbm => 19
  | .vmem => 31
  | .smem => 0
  | _ => 0

abbrev bufTy : (tb : Table) → Fin (tcTables nBuf tb) → BufTy
  | .hbm, ⟨0, _⟩ => ⟨S1024x32000, .f32⟩
  | .hbm, ⟨1, _⟩ => ⟨S32000x2000, .f32⟩
  | .hbm, ⟨2, _⟩ => ⟨S2000, .f32⟩
  | .hbm, ⟨3, _⟩ => ⟨S2000x1000, .f32⟩
  | .hbm, ⟨4, _⟩ => ⟨S1000, .f32⟩
  | .hbm, ⟨5, _⟩ => ⟨S1000x2000, .f32⟩
  | .hbm, ⟨6, _⟩ => ⟨S2000, .f32⟩
  | .hbm, ⟨7, _⟩ => ⟨S1000, .f32⟩
  | .hbm, ⟨8, _⟩ => ⟨S1000, .f32⟩
  | .hbm, ⟨9, _⟩ => ⟨S1000x500, .f32⟩
  | .hbm, ⟨10, _⟩ => ⟨S500, .f32⟩
  | .hbm, ⟨11, _⟩ => ⟨S1x2000, .f32⟩
  | .hbm, ⟨12, _⟩ => ⟨S1x1000, .f32⟩
  | .hbm, ⟨13, _⟩ => ⟨S1x2000, .f32⟩
  | .hbm, ⟨14, _⟩ => ⟨S1x1000, .f32⟩
  | .hbm, ⟨15, _⟩ => ⟨S1x1000, .f32⟩
  | .hbm, ⟨16, _⟩ => ⟨S1x500, .f32⟩
  | .hbm, ⟨17, _⟩ => ⟨S1024x2000, .f32⟩
  | .hbm, ⟨18, _⟩ => ⟨S1024x2500, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x2000, .f32⟩
  | .local _ .vmem, ⟨9, _⟩ => ⟨S256x2000, .f32⟩
  | .local _ .vmem, ⟨10, _⟩ => ⟨S256x2000, .f32⟩
  | .local _ .vmem, ⟨11, _⟩ => ⟨S256x2000, .f32⟩
  | .local _ .vmem, ⟨12, _⟩ => ⟨S256x2000, .f32⟩
  | .local _ .vmem, ⟨13, _⟩ => ⟨S256x2000, .f32⟩
  | .local _ .vmem, ⟨14, _⟩ => ⟨S256x2000, .f32⟩
  | .local _ .vmem, ⟨15, _⟩ => ⟨S256x2000, .f32⟩
  | .local _ .vmem, ⟨16, _⟩ => ⟨S256x2000, .f32⟩
  | .local _ .vmem, ⟨17, _⟩ => ⟨S256x2000, .f32⟩
  | .local _ .vmem, ⟨18, _⟩ => ⟨S1x2000, .f32⟩
  | .local _ .vmem, ⟨19, _⟩ => ⟨S1024x2000, .f32⟩
  | .local _ .vmem, ⟨20, _⟩ => ⟨S1024x2000, .f32⟩
  | .local _ .vmem, ⟨21, _⟩ => ⟨S1024x2000, .f32⟩
  | .local _ .vmem, ⟨22, _⟩ => ⟨S2000x1000, .f32⟩
  | .local _ .vmem, ⟨23, _⟩ => ⟨S1x1000, .f32⟩
  | .local _ .vmem, ⟨24, _⟩ => ⟨S1000x2000, .f32⟩
  | .local _ .vmem, ⟨25, _⟩ => ⟨S1x2000, .f32⟩
  | .local _ .vmem, ⟨26, _⟩ => ⟨S1x1000, .f32⟩
  | .local _ .vmem, ⟨27, _⟩ => ⟨S1x1000, .f32⟩
  | .local _ .vmem, ⟨28, _⟩ => ⟨S1000x500, .f32⟩
  | .local _ .vmem, ⟨29, _⟩ => ⟨S1x500, .f32⟩
  | .local _ .vmem, ⟨30, _⟩ => ⟨S1024x2500, .f32⟩
  | _, _ => ⟨S1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_scratch0 : Ref sig .tc := ⟨.vmem, 20, rfl⟩
abbrev cc1_stg0_0 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc1_sem0_0 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v99 : BitVec 1 := Scalar.cmpi .eq arg0 c24_i32
  let v100 : BitVec 32 := Scalar.extui v99
  let c0_i32_111 : BitVec 32 := 0#32
  let v101 : BitVec 1 := Scalar.cmpi .ne v100 c0_i32_111
  v101

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_2 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_3 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := .none

abbrev stage1_0 : Fin 1 → Memref sig .tc .vmem S1024x2000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2000x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1000x2000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x2000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1000x500 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x500 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1024x2500 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S1024x32000 : Shape := ⟨2, ![1024, 32000]⟩
abbrev S32000x2000 : Shape := ⟨2, ![32000, 2000]⟩
abbrev S2000 : Shape := ⟨1, ![2000]⟩
abbrev S2000x1000 : Shape := ⟨2, ![2000, 1000]⟩
abbrev S1000 : Shape := ⟨1, ![1000]⟩
abbrev S1000x2000 : Shape := ⟨2, ![1000, 2000]⟩
abbrev S1000x500 : Shape := ⟨2, ![1000, 500]⟩
abbrev S500 : Shape := ⟨1, ![500]⟩
abbrev S_ : Shape := ⟨0, ![]⟩
abbrev S1024x2000 : Shape := ⟨2, ![1024, 2000]⟩
abbrev S1x2000 : Shape := ⟨2, ![1, 2000]⟩
abbrev S1024x1000 : Shape := ⟨2, ![1024, 1000]⟩
abbrev S1x1000 : Shape := ⟨2, ![1, 1000]⟩
abbrev S1024x500 : Shape := ⟨2, ![1024, 500]⟩
abbrev S1x500 : Shape := ⟨2, ![1, 500]⟩
abbrev S1024x2500 : Shape := ⟨2, ![1024, 2500]⟩

abbrev nBuf : Space → Nat
  | .hbm => 57
  | .vmem => 0
  | .smem => 0
  | _ => 0

abbrev bufTy : (tb : Table) → Fin (tcTables nBuf tb) → BufTy
  | .hbm, ⟨0, _⟩ => ⟨S1024x32000, .f32⟩
  | .hbm, ⟨1, _⟩ => ⟨S32000x2000, .f32⟩
  | .hbm, ⟨2, _⟩ => ⟨S2000, .f32⟩
  | .hbm, ⟨3, _⟩ => ⟨S2000x1000, .f32⟩
  | .hbm, ⟨4, _⟩ => ⟨S1000, .f32⟩
  | .hbm, ⟨5, _⟩ => ⟨S1000x2000, .f32⟩
  | .hbm, ⟨6, _⟩ => ⟨S2000, .f32⟩
  | .hbm, ⟨7, _⟩ => ⟨S1000, .f32⟩
  | .hbm, ⟨8, _⟩ => ⟨S1000, .f32⟩
  | .hbm, ⟨9, _⟩ => ⟨S1000x500, .f32⟩
  | .hbm, ⟨10, _⟩ => ⟨S500, .f32⟩
  | .hbm, ⟨11, _⟩ => ⟨S_, .f32⟩
  | .hbm, ⟨12, _⟩ => ⟨S500, .f32⟩
  | .hbm, ⟨13, _⟩ => ⟨S_, .f32⟩
  | .hbm, ⟨14, _⟩ => ⟨S500, .f32⟩
  | .hbm, ⟨15, _⟩ => ⟨S1000, .f32⟩
  | .hbm, ⟨16, _⟩ => ⟨S_, .f32⟩
  | .hbm, ⟨17, _⟩ => ⟨S500, .f32⟩
  | .hbm, ⟨18, _⟩ => ⟨S_, .f32⟩
  | .hbm, ⟨19, _⟩ => ⟨S500, .f32⟩
  | .hbm, ⟨20, _⟩ => ⟨S1000, .f32⟩
  | .hbm, ⟨21, _⟩ => ⟨S1024x2000, .f32⟩
  | .hbm, ⟨22, _⟩ => ⟨S1x2000, .f32⟩
  | .hbm, ⟨23, _⟩ => ⟨S1024x2000, .f32⟩
  | .hbm, ⟨24, _⟩ => ⟨S1024x2000, .f32⟩
  | .hbm, ⟨25, _⟩ => ⟨S_, .f32⟩
  | .hbm, ⟨26, _⟩ => ⟨S1024x2000, .f32⟩
  | .hbm, ⟨27, _⟩ => ⟨S1024x2000, .f32⟩
  | .hbm, ⟨28, _⟩ => ⟨S1024x1000, .f32⟩
  | .hbm, ⟨29, _⟩ => ⟨S1x1000, .f32⟩
  | .hbm, ⟨30, _⟩ => ⟨S1024x1000, .f32⟩
  | .hbm, ⟨31, _⟩ => ⟨S1024x1000, .f32⟩
  | .hbm, ⟨32, _⟩ => ⟨S1x1000, .f32⟩
  | .hbm, ⟨33, _⟩ => ⟨S1024x1000, .f32⟩
  | .hbm, ⟨34, _⟩ => ⟨S1024x1000, .f32⟩
  | .hbm, ⟨35, _⟩ => ⟨S_, .f32⟩
  | .hbm, ⟨36, _⟩ => ⟨S1024x1000, .f32⟩
  | .hbm, ⟨37, _⟩ => ⟨S1024x1000, .f32⟩
  | .hbm, ⟨38, _⟩ => ⟨S1024x2000, .f32⟩
  | .hbm, ⟨39, _⟩ => ⟨S1x2000, .f32⟩
  | .hbm, ⟨40, _⟩ => ⟨S1024x2000, .f32⟩
  | .hbm, ⟨41, _⟩ => ⟨S1024x2000, .f32⟩
  | .hbm, ⟨42, _⟩ => ⟨S1x1000, .f32⟩
  | .hbm, ⟨43, _⟩ => ⟨S1024x1000, .f32⟩
  | .hbm, ⟨44, _⟩ => ⟨S1024x1000, .f32⟩
  | .hbm, ⟨45, _⟩ => ⟨S1x1000, .f32⟩
  | .hbm, ⟨46, _⟩ => ⟨S1024x1000, .f32⟩
  | .hbm, ⟨47, _⟩ => ⟨S1024x1000, .f32⟩
  | .hbm, ⟨48, _⟩ => ⟨S1x1000, .f32⟩
  | .hbm, ⟨49, _⟩ => ⟨S1024x1000, .f32⟩
  | .hbm, ⟨50, _⟩ => ⟨S1024x1000, .f32⟩
  | .hbm, ⟨51, _⟩ => ⟨S1024x1000, .f32⟩
  | .hbm, ⟨52, _⟩ => ⟨S1024x500, .f32⟩
  | .hbm, ⟨53, _⟩ => ⟨S1x500, .f32⟩
  | .hbm, ⟨54, _⟩ => ⟨S1024x500, .f32⟩
  | .hbm, ⟨55, _⟩ => ⟨S1024x500, .f32⟩
  | .hbm, ⟨56, _⟩ => ⟨S1024x2500, .f32⟩
  | _, _ => ⟨S1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Proof.MatmulBodyIdeal.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first condition of the body: the grid coordinate is zero. -/
abbrev atStart (i : grid0.Coords) : Prop :=
  (Scalar.cmpi .ne (Scalar.extui (Scalar.cmpi .eq (BitVec.ofNat 32 (i 0).val) 0#32)) 0#32) = 1#1

/-- The second condition of the body: the grid coordinate is the last one. -/
abbrev atEnd (i : grid0.Coords) : Prop := k0_cond2 i = 1#1

/-- What one row quarter of the accumulator becomes: its old rows plus the five products of the `X` block's column
    chunks with the five `W` blocks. -/
def quarter (x : Vec F S256x1280 .f32) (w0 w1 w2 w3 w4 : Vec F S256x2000 .f32) (r : Vec F S256x2000 .f32) : Vec F S256x2000 .f32 :=
  k0_pay4 (View.ld x (Rect.unit (s := S256x1280) ![0, 0] S256x256.size inb_S256x1280_S256x256_0_0))
    (View.ld w0 (Rect.unit (s := S256x2000) ![0, 0] S256x2000.size inb_S256x2000_S256x2000_0_0))
    (View.ld x (Rect.unit (s := S256x1280) ![0, 256] S256x256.size inb_S256x1280_S256x256_0_256))
    (View.ld w1 (Rect.unit (s := S256x2000) ![0, 0] S256x2000.size inb_S256x2000_S256x2000_0_0))
    (View.ld x (Rect.unit (s := S256x1280) ![0, 512] S256x256.size inb_S256x1280_S256x256_0_512))
    (View.ld w2 (Rect.unit (s := S256x2000) ![0, 0] S256x2000.size inb_S256x2000_S256x2000_0_0))
    (View.ld x (Rect.unit (s := S256x1280) ![0, 768] S256x256.size inb_S256x1280_S256x256_0_768))
    (View.ld w3 (Rect.unit (s := S256x2000) ![0, 0] S256x2000.size inb_S256x2000_S256x2000_0_0))
    (View.ld x (Rect.unit (s := S256x1280) ![0, 1024] S256x256.size inb_S256x1280_S256x256_0_1024))
    (View.ld w4 (Rect.unit (s := S256x2000) ![0, 0] S256x2000.size inb_S256x2000_S256x2000_0_0)) r

/-- The four stores of the accumulator's row quarters, the last one first. -/
def quarters (x0 x1 x2 x3 : Vec F S256x1280 .f32) (w0 w1 w2 w3 w4 : Vec F S256x2000 .f32) (a : Vec F S1024x2000 .f32) :
    List (View.Piece (Elt F) S1024x2000 .f32) :=
  [⟨Rect.unit (s := S1024x2000) ![768, 0] S256x2000.size inb_S1024x2000_S256x2000_768_0,
      quarter x3 w0 w1 w2 w3 w4 (View.ld a (Rect.unit (s := S1024x2000) ![768, 0] S256x2000.size inb_S1024x2000_S256x2000_768_0))⟩,
   ⟨Rect.unit (s := S1024x2000) ![512, 0] S256x2000.size inb_S1024x2000_S256x2000_512_0,
      quarter x2 w0 w1 w2 w3 w4 (View.ld a (Rect.unit (s := S1024x2000) ![512, 0] S256x2000.size inb_S1024x2000_S256x2000_512_0))⟩,
   ⟨Rect.unit (s := S1024x2000) ![256, 0] S256x2000.size inb_S1024x2000_S256x2000_256_0,
      quarter x1 w0 w1 w2 w3 w4 (View.ld a (Rect.unit (s := S1024x2000) ![256, 0] S256x2000.size inb_S1024x2000_S256x2000_256_0))⟩,
   ⟨Rect.unit (s := S1024x2000) ![0, 0] S256x2000.size inb_S1024x2000_S256x2000_0_0,
      quarter x0 w0 w1 w2 w3 w4 (View.ld a (Rect.unit (s := S1024x2000) ![0, 0] S256x2000.size inb_S1024x2000_S256x2000_0_0))⟩]

/-- The four row quarters cover the accumulator. -/
theorem quarters_cover (x0 x1 x2 x3 : Vec F S256x1280 .f32) (w0 w1 w2 w3 w4 : Vec F S256x2000 .f32) (a : Vec F S1024x2000 .f32)
    (y : S1024x2000.Idx) : ∃ p ∈ quarters x0 x1 x2 x3 w0 w1 w2 w3 w4 a, y ∈ p.1.set :=
  View.cover_of_tiledL (quarters x0 x1 x2 x3 w0 w1 w2 w3 w4 a) S256x2000.size (by sl_kernel_rfl) y

/-- The accumulator after one point, as a function of the point's blocks and of the accumulator before. -/
def accNext (x0 x1 x2 x3 : Vec F S256x1280 .f32) (w0 w1 w2 w3 w4 : Vec F S256x2000 .f32) (a : Vec F S1024x2000 .f32) :
    Vec F S1024x2000 .f32 :=
  View.canon (quarters x0 x1 x2 x3 w0 w1 w2 w3 w4 a)

/-- The rectified sum of the accumulator and the bias row, as the last point stores it. -/
def rectified (a : Vec F S1024x2000 .f32) (b : Vec F S1x2000 .f32) : Vec F S1024x2000 .f32 :=
  k0_pay2 a (View.ld b (Rect.unit (s := S1x2000) ![0, 0] S1x2000.size inb_S1x2000_S1x2000_0_0))

section ReadBack
variable {sp : Space} (v : View sig .tc sp S1024x2000 .f32)

/-- A load of the whole accumulator after stores `L` reads what those stores leave. -/
theorem load_whole (L : List (View.Piece (Elt F) S1024x2000 .f32)) :
    v.readCov L (Rect.unit (s := S1024x2000) ![0, 0] S1024x2000.size inb_S1024x2000_S1024x2000_0_0).toLoadRect = View.canon L := by
  rw [View.readCov_eq_canon']
  exact View.ld_unit_lit _ _ (by decide)

/-- The store that fills the whole accumulator with `z`. -/
def fill (z : Vec F S1024x2000 .f32) : View.Piece (Elt F) S1024x2000 .f32 :=
  ⟨Rect.unit (s := S1024x2000) ![0, 0] S1024x2000.size inb_S1024x2000_S1024x2000_0_0, z⟩

/-- A load of any rows right after the fill reads the fill. -/
theorem load_fill (z : Vec F S1024x2000 .f32) (r : Rect S1024x2000) : v.readCov [fill z] r.toLoadRect = View.ld z r :=
  View.readCov_fill v _ z [] r (by decide)

/-- Rows filled by `z` and stepped, quarter by quarter: the later quarters' old rows are still the fill's, so the four
    stores leave the step from `z`. -/
theorem read_filled (f : v.ty.Contents (Elt F)) (z : Vec F S1024x2000 .f32) (x0 x1 x2 x3 : Vec F S256x1280 .f32)
    (w0 w1 w2 w3 w4 : Vec F S256x2000 .f32) :
    v.read (Elt F) (v.writes (Elt F) f (quarters x0 x1 x2 x3 w0 w1 w2 w3 w4 z ++ [fill z])) = accNext x0 x1 x2 x3 w0 w1 w2 w3 w4 z := by
  rw [View.writes_append]
  exact View.read_writes_eq_canon v _ _ (quarters_cover _ _ _ _ _ _ _ _ _ _)

end ReadBack

section Body
variable (c : Dev nD) (i : grid0.Coords)
  (X0 X1 X2 X3 : Memref sig .tc .vmem S256x1280 .f32) (W0 W1 W2 W3 W4 : Memref sig .tc .vmem S256x2000 .f32)
  (B : Memref sig .tc .vmem S1x2000 .f32) (O A : Memref sig .tc .vmem S1024x2000 .f32)
  (hX0 : X0.IsWhole) (hX1 : X1.IsWhole) (hX2 : X2.IsWhole) (hX3 : X3.IsWhole)
  (hW0 : W0.IsWhole) (hW1 : W1.IsWhole) (hW2 : W2.IsWhole) (hW3 : W3.IsWhole) (hW4 : W4.IsWhole)
  (hB : B.IsWhole) (hO : O.IsWhole) (hA : A.IsWhole)
  (x0 x1 x2 x3 : Vec F S256x1280 .f32) (w0 w1 w2 w3 w4 : Vec F S256x2000 .f32) (b : Vec F S1x2000 .f32)

/-- The ten input windows' staging buffers, each at its contents. -/
def inputs : sProp 𝕄 :=
  iprop(owns (c : Thread nD τ) X0 fullShare x0 ∗ owns (c : Thread nD τ) X1 fullShare x1
    ∗ owns (c : Thread nD τ) X2 fullShare x2 ∗ owns (c : Thread nD τ) X3 fullShare x3
    ∗ owns (c : Thread nD τ) W0 fullShare w0 ∗ owns (c : Thread nD τ) W1 fullShare w1
    ∗ owns (c : Thread nD τ) W2 fullShare w2 ∗ owns (c : Thread nD τ) W3 fullShare w3
    ∗ owns (c : Thread nD τ) W4 fullShare w4 ∗ owns (c : Thread nD τ) B fullShare b)

/-- The kernel's body on given staging buffers and accumulator. -/
abbrev body : Prog (TpuEff nD τ sig (Elt F) Λ₀ .tc) PUnit :=
  cc0__matmul_kernel i X0 hX0 X1 hX1 X2 hX2 X3 hX3 W0 hW0 W1 hW1 W2 hW2 W3 hW3 W4 hW4 B hB O hO A hA

set_option maxHeartbeats 1000000 in
/-- A point that is neither the first nor the last: the accumulator takes one more step, the output buffer is left alone. -/
theorem middle_run (h0 : ¬ atStart i) (h1 : ¬ atEnd i) (xo a : Vec F S1024x2000 .f32) (E : Set ℕ) (K : PUnit → sProp 𝕄) :
    iprop(inputs c X0 X1 X2 X3 W0 W1 W2 W3 W4 B x0 x1 x2 x3 w0 w1 w2 w3 w4 b ∗ owns (c : Thread nD τ) O fullShare xo ∗ owns (c : Thread nD τ) A fullShare a
      ∗ (iprop(inputs c X0 X1 X2 X3 W0 W1 W2 W3 W4 B x0 x1 x2 x3 w0 w1 w2 w3 w4 b ∗ owns (c : Thread nD τ) O fullShare xo ∗ owns (c : Thread nD τ) A fullShare (accNext x0 x1 x2 x3 w0 w1 w2 w3 w4 a)) -∗ K ⟨⟩))
      ⊢ wp frame (wpE (defs₀ (F := F)) Variants.none c none) E
          (body i X0 X1 X2 X3 W0 W1 W2 W3 W4 B O A hX0 hX1 hX2 hX3 hW0 hW1 hW2 hW3 hW4 hB hO hA) K := by
  simp only [body, cc0__matmul_kernel_eq_skeleton]; unfold cc0__matmul_kernel_skel
  simp only [k0_part1_eq_skeleton, k0_part2_eq_skeleton, k0_part3_eq_skeleton]
  unfold inputs owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%fo, %eo, HO⟩, ⟨%fa, %ea, HA⟩, Hk⟩
  sl_exec (disch := first | sl_exact h0 | sl_exact h1)
  sl_step
  iapply Hk
  isplitl [H0 H1 H2 H3 H4 H5 H6 H7 H8 H9]
  · isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    isplitl [H7]; · iexists f7; isplitr; · ipureintro; exact e7
                    iexact H7
    isplitl [H8]; · iexists f8; isplitr; · ipureintro; exact e8
                    iexact H8
    iexists f9; isplitr; · ipureintro; exact e9
    iexact H9
  subst e0; subst e1; subst e2; subst e3; subst e4; subst e5; subst e6; subst e7; subst e8; subst e9
  isplitl [HO]
  · iexists fo; isplitr; · ipureintro; exact eo
    iexact HO
  subst ea
  iexists _; isplitr; swap; · iexact HA
  ipureintro
  exact View.read_writes_eq_canon A.view fa (quarters _ _ _ _ _ _ _ _ _ _) (quarters_cover _ _ _ _ _ _ _ _ _ _)

set_option maxHeartbeats 1000000 in
/-- The first point: whatever the accumulator held, it is zeroed and takes one step; the output buffer is left alone. -/
theorem first_run (h0 : atStart i) (h1 : ¬ atEnd i) (xo : Vec F S1024x2000 .f32) (E : Set ℕ) (K : PUnit → sProp 𝕄) :
    iprop(inputs c X0 X1 X2 X3 W0 W1 W2 W3 W4 B x0 x1 x2 x3 w0 w1 w2 w3 w4 b ∗ owns (c : Thread nD τ) O fullShare xo ∗ (∃ d, owns (c : Thread nD τ) A fullShare d)
      ∗ (iprop(inputs c X0 X1 X2 X3 W0 W1 W2 W3 W4 B x0 x1 x2 x3 w0 w1 w2 w3 w4 b ∗ owns (c : Thread nD τ) O fullShare xo ∗ owns (c : Thread nD τ) A fullShare (accNext x0 x1 x2 x3 w0 w1 w2 w3 w4 k0_pay3)) -∗ K ⟨⟩))
      ⊢ wp frame (wpE (defs₀ (F := F)) Variants.none c none) E
          (body i X0 X1 X2 X3 W0 W1 W2 W3 W4 B O A hX0 hX1 hX2 hX3 hW0 hW1 hW2 hW3 hW4 hB hO hA) K := by
  simp only [body, cc0__matmul_kernel_eq_skeleton]; unfold cc0__matmul_kernel_skel
  simp only [k0_part1_eq_skeleton, k0_part2_eq_skeleton, k0_part3_eq_skeleton]
  unfold inputs owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%fo, %eo, HO⟩, ⟨%da, %fa, -, HA⟩, Hk⟩
  sl_exec (disch := first | sl_exact h0 | sl_exact h1)
  sl_step
  iapply Hk
  isplitl [H0 H1 H2 H3 H4 H5 H6 H7 H8 H9]
  · isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    isplitl [H7]; · iexists f7; isplitr; · ipureintro; exact e7
                    iexact H7
    isplitl [H8]; · iexists f8; isplitr; · ipureintro; exact e8
                    iexact H8
    iexists f9; isplitr; · ipureintro; exact e9
    iexact H9
  subst e0; subst e1; subst e2; subst e3; subst e4; subst e5; subst e6; subst e7; subst e8; subst e9
  isplitl [HO]
  · iexists fo; isplitr; · ipureintro; exact eo
    iexact HO
  iexists _; isplitr; swap; · iexact HA
  ipureintro
  have e1 : first_run.sl.v46 c X0 W0 W1 W2 W3 W4 A f0 f4 f5 f6 f7 f8 = View.ld k0_pay3 (Rect.unit (s := S1024x2000) ![256, 0] S256x2000.size inb_S1024x2000_S256x2000_256_0) :=
    (View.readCov_skip A.view _ _ _ _ (by decide)).trans (load_fill A.view k0_pay3 _)
  have e2 : first_run.sl.v70 c X0 X1 W0 W1 W2 W3 W4 A f0 f1 f4 f5 f6 f7 f8 = View.ld k0_pay3 (Rect.unit (s := S1024x2000) ![512, 0] S256x2000.size inb_S1024x2000_S256x2000_512_0) :=
    (View.readCov_skip A.view _ _ _ _ (by decide)).trans ((View.readCov_skip A.view _ _ _ _ (by decide)).trans (load_fill A.view k0_pay3 _))
  have e3 : first_run.sl.v94 c X0 X1 X2 W0 W1 W2 W3 W4 A f0 f1 f2 f4 f5 f6 f7 f8 = View.ld k0_pay3 (Rect.unit (s := S1024x2000) ![768, 0] S256x2000.size inb_S1024x2000_S256x2000_768_0) :=
    (View.readCov_skip A.view _ _ _ _ (by decide)).trans ((View.readCov_skip A.view _ _ _ _ (by decide)).trans
      ((View.readCov_skip A.view _ _ _ _ (by decide)).trans (load_fill A.view k0_pay3 _)))
  have e0 : first_run.sl.v22 (F := F) c A = View.ld (k0_pay3 (F := F)) (Rect.unit (s := S1024x2000) ![0, 0] S256x2000.size inb_S1024x2000_S256x2000_0_0) :=
    load_fill A.view k0_pay3 _
  unfold first_run.sl.HA_4 first_run.sl.HA_3 first_run.sl.HA_2 first_run.sl.HA_1
  rw [e1, e2, e3]
  unfold first_run.sl.r
  rw [e0]
  exact read_filled A.view fa k0_pay3 _ _ _ _ _ _ _ _ _

set_option maxHeartbeats 1000000 in
/-- The last point: the accumulator takes its last step, and its rectified sum with the bias is stored in the output buffer. -/
theorem last_run (h0 : ¬ atStart i) (h1 : atEnd i) (a : Vec F S1024x2000 .f32) (E : Set ℕ) (K : PUnit → sProp 𝕄) :
    iprop(inputs c X0 X1 X2 X3 W0 W1 W2 W3 W4 B x0 x1 x2 x3 w0 w1 w2 w3 w4 b ∗ (∃ d, owns (c : Thread nD τ) O fullShare d) ∗ owns (c : Thread nD τ) A fullShare a
      ∗ (iprop(inputs c X0 X1 X2 X3 W0 W1 W2 W3 W4 B x0 x1 x2 x3 w0 w1 w2 w3 w4 b ∗ owns (c : Thread nD τ) O fullShare (rectified (accNext x0 x1 x2 x3 w0 w1 w2 w3 w4 a) b) ∗ owns (c : Thread nD τ) A fullShare (accNext x0 x1 x2 x3 w0 w1 w2 w3 w4 a)) -∗ K ⟨⟩))
      ⊢ wp frame (wpE (defs₀ (F := F)) Variants.none c none) E
          (body i X0 X1 X2 X3 W0 W1 W2 W3 W4 B O A hX0 hX1 hX2 hX3 hW0 hW1 hW2 hW3 hW4 hB hO hA) K := by
  simp only [body, cc0__matmul_kernel_eq_skeleton]; unfold cc0__matmul_kernel_skel
  simp only [k0_part1_eq_skeleton, k0_part2_eq_skeleton, k0_part3_eq_skeleton]
  unfold inputs owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%dO, %fo, -, HO⟩, ⟨%fa, %ea, HA⟩, Hk⟩
  sl_exec (disch := first | sl_exact h0 | sl_exact h1)
  sl_step
  iapply Hk
  isplitl [H0 H1 H2 H3 H4 H5 H6 H7 H8 H9]
  · isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    isplitl [H7]; · iexists f7; isplitr; · ipureintro; exact e7
                    iexact H7
    isplitl [H8]; · iexists f8; isplitr; · ipureintro; exact e8
                    iexact H8
    iexists f9; isplitr; · ipureintro; exact e9
    iexact H9
  subst e0; subst e1; subst e2; subst e3; subst e4; subst e5; subst e6; subst e7; subst e8; subst e9
  subst ea
  isplitl [HO]
  · iexists _; isplitr; swap; · iexact HO
    ipureintro
    refine (View.read_writes_eq_canon O.view fo _ ?_).trans ?_
    · exact View.cover_of_wholeMem _ (by sl_whole_mem)
    refine (View.canon_cons_unit_lit _ _ [] (by decide)).trans ?_
    exact congrArg (fun a => k0_pay2 a _) (load_whole A.view (quarters _ _ _ _ _ _ _ _ _ _))
  iexists _; isplitr; swap; · iexact HA
  ipureintro
  exact View.read_writes_eq_canon A.view fa (quarters _ _ _ _ _ _ _ _ _ _) (quarters_cover _ _ _ _ _ _ _ _ _ _)

end Body

end Cert.KernelIdeal.Matmul

end
-- ==== Proof.MatmulRegionIdeal.lean ====
module

public import proofs.«01_k».proof.Proof.MatmulBodyIdeal
public import Idealize.ShloMosaic.Lib.Pipeline.Frame

@[expose] public section

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks and the accumulator, point by point -/

variable (V : Dev nD → Valuation τ sig (Elt F))

/-- The block of window `w` at point `t`, read off its array as the pipeline finds it. -/
def blk (c : Dev nD) (w : Fin cfg0.W) (t : Fin cfg0.N) : ((cfg0.win w).xblock (grid0.coords t)).Idx → Elt F (cfg0.win w).elt :=
  ((cfg0.win w).blk t).view.read (Elt F) (V c (Pipeline.arrRef spec0 w))

/-- One point's step of the accumulator. -/
def stepAt (c : Dev nD) (t : Fin cfg0.N) (a : Vec F S1024x2000 .f32) : Vec F S1024x2000 .f32 :=
  accNext (blk V c 0 t) (blk V c 1 t) (blk V c 2 t) (blk V c 3 t) (blk V c 4 t) (blk V c 5 t) (blk V c 6 t) (blk V c 7 t) (blk V c 8 t) a

/-- The accumulator after point `n`: the steps so far, from zero. -/
def accAfter (c : Dev nD) : (n : ℕ) → n < cfg0.N → Vec F S1024x2000 .f32
  | 0, h => stepAt V c ⟨0, h⟩ (k0_pay3 (F := F))
  | n + 1, h => stepAt V c ⟨n + 1, h⟩ (accAfter c n (Nat.lt_of_succ_lt h))

/-- At the first point the accumulator is one step from zero. -/
theorem accAfter_first (c : Dev nD) (t : Fin cfg0.N) (h : t.val = 0) :
    accAfter V c t.val t.isLt = stepAt V c t (k0_pay3 (F := F)) := by
  obtain ⟨n, hn⟩ := t
  subst h; rfl

/-- At any other point it is one step from where the point before left it. -/
theorem accAfter_later (c : Dev nD) (t : Fin cfg0.N) (h : t.val ≠ 0) :
    accAfter V c t.val t.isLt = stepAt V c t (accAfter V c (t.val - 1) (by omega)) := by
  obtain ⟨n, hn⟩ := t
  cases n with
  | zero => exact absurd rfl h
  | succ n => rfl

/-- What the last point stores in the output block. -/
def result (c : Dev nD) (t : Fin cfg0.N) : Vec F S1024x2000 .f32 := rectified (accAfter V c t.val t.isLt) (blk V c 9 t)

/-! ## The two conditions over the grid -/

theorem atStart_iff (t : Fin cfg0.N) : atStart (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    have e1 : t.val = 0 ↔ t.val % 25 = 0 := by omega
    rw [e1]
    simp only [atStart, e0]
    word_cmp
   : ∀ t : Fin grid0.N, atStart (grid0.coords t) ↔ t.val = 0) t

theorem atEnd_iff (t : Fin cfg0.N) : atEnd (grid0.coords t) ↔ t.val = 24 :=
  (fun t => by
    have ht : t.val < 25 := Nat.lt_of_lt_of_eq t.isLt N_0
    have e0 : (grid0.coords t 0).val = t.val / 1 % 25 := Pipeline.Grid.coords_val t 0 (by decide) rfl
    have e1 : t.val = 24 ↔ t.val % 25 = 24 := by omega
    rw [e1]
    simp only [atEnd, k0_cond2, e0]
    word_cmp
   : ∀ t : Fin grid0.N, atEnd (grid0.coords t) ↔ t.val = 24) t

/-- Before the last point the output window is idle … -/
theorem out_idle : ∀ t : Fin cfg0.N, t.val ≠ 24 → cfg0.idle 10 (grid0.coords t) = true := by decide +kernel
/-- … and not written back; -/
theorem out_kept : ∀ t : Fin cfg0.N, t.val ≠ 24 → (cfg0.win 10).flush t = false := by decide +kernel
/-- at the last point it is live. -/
theorem out_live : ∀ t : Fin cfg0.N, t.val = 24 → cfg0.idle 10 (grid0.coords t) = false := by decide +kernel

/-! ## The invariant between points -/

/-- The accumulator's buffer. -/
abbrev acc : Memref sig .tc .vmem S1024x2000 .f32 := Memref.whole cc0_scratch0

/-- The other pipeline's staging buffers, at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f))

/-- What the launch hands the pipeline: the accumulator at anything, the other staging buffers, the generator register. -/
theorem entry_eq (c : Dev nD) :
    (Pipeline.ΦA spec0 c : sProp 𝕄)
      = iprop(((∃ d, owns (c : Thread nD τ) acc fullShare d) ∗ others c) ∗ (∃ r, prngReg c r)) := by
  unfold Pipeline.ΦA others; rw [scopedRest0_eq]; simp only [acc, owns_whole]; try rfl

/-- The invariant before point `n`: at the start what the launch hands over, later the accumulator where the point before
    left it. -/
def inv (c : Dev nD) : (n : ℕ) → n ≤ cfg0.N → sProp 𝕄
  | 0, _ => Pipeline.ΦA spec0 c
  | n + 1, h => iprop((owns (c : Thread nD τ) acc fullShare (accAfter V c n h) ∗ others c) ∗ (∃ r, prngReg c r))

theorem inv_first (c : Dev nD) (n : ℕ) (h : n ≤ cfg0.N) (hz : n = 0) : inv V c n h = Pipeline.ΦA spec0 c := by
  subst hz; rfl

theorem inv_later (c : Dev nD) (n : ℕ) (h : n ≤ cfg0.N) (hz : n ≠ 0) :
    inv V c n h = iprop((owns (c : Thread nD τ) acc fullShare (accAfter V c (n - 1) (by omega)) ∗ others c) ∗ (∃ r, prngReg c r)) := by
  cases n with
  | zero => exact absurd rfl hz
  | succ n => rfl

/-! ## The pipeline's proof data -/

/-- The proof data: the arrays as found; after a point each input's buffer still at its block and the output's at `result`; the
    invariant `inv`; nothing owed; the inputs at their shares of their arrays. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => result V c t
  Φ t := inv V c t.val (Nat.le_of_lt_succ t.isLt)
  q w := Pipeline.shareOf spec0 w
  owed _ := 0

theorem dat_A (c : Dev nD) (w : Fin cfg0.W) : (dat V c).A w = V c (Pipeline.arrRef spec0 w) := by
  dsimp only [dat]

/-- The invariant at a point's start. -/
theorem dat_inv (c : Dev nD) (t : Fin cfg0.N) : (dat V c).Φ t.castSucc = inv V c t.val (Nat.le_of_lt t.isLt) := by
  dsimp only [dat]; exact Pipeline.Dat.Φ_castSucc (inv V c) t

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = blk V c 7 t := by dsimp only [dat]
theorem after_8 (c : Dev nD) (t : Fin cfg0.N) : (dat V c).after 8 t = blk V c 8 t := by dsimp only [dat]
theorem after_9 (c : Dev nD) (t : Fin cfg0.N) : (dat V c).after 9 t = blk V c 9 t := by dsimp only [dat]
theorem after_10 (c : Dev nD) (t : Fin cfg0.N) : (dat V c).after 10 t = result V c t := by dsimp only [dat]

/-! Each input's buffer holds its block at every point, fetched there or not. -/

theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl) (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl) (fun t => by rw [after_3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl) (fun t => by rw [after_4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl) (fun t => by rw [after_5]; unfold Dat.blockOf blk; rw [dat_A]; try rfl) t d).trans
    (by unfold Dat.fetched Dat.blockOf blk; rw [dat_A]; try rfl)
theorem before_6 (c : Dev nD) (t : Fin cfg0.N) (d) : (dat V c).before 6 t d = blk V c 6 t :=
  ((dat V c).before_in_eq_fetched 6 rfl (fun _ => rfl) (fun _ _ _ => rfl) (fun t => by rw [after_6]; unfold Dat.blockOf blk; rw [dat_A]; try rfl) t d).trans
    (by unfold Dat.fetched Dat.blockOf blk; rw [dat_A]; try rfl)
theorem before_7 (c : Dev nD) (t : Fin cfg0.N) (d) : (dat V c).before 7 t d = blk V c 7 t :=
  ((dat V c).before_in_eq_fetched 7 rfl (fun _ => rfl) (fun _ _ _ => rfl) (fun t => by rw [after_7]; unfold Dat.blockOf blk; rw [dat_A]; try rfl) t d).trans
    (by unfold Dat.fetched Dat.blockOf blk; rw [dat_A]; try rfl)
theorem before_8 (c : Dev nD) (t : Fin cfg0.N) (d) : (dat V c).before 8 t d = blk V c 8 t :=
  ((dat V c).before_in_eq_fetched 8 rfl (fun _ => rfl) (fun _ _ _ => rfl) (fun t => by rw [after_8]; unfold Dat.blockOf blk; rw [dat_A]; try rfl) t d).trans
    (by unfold Dat.fetched Dat.blockOf blk; rw [dat_A]; try rfl)
theorem before_9 (c : Dev nD) (t : Fin cfg0.N) (d) : (dat V c).before 9 t d = blk V c 9 t :=
  ((dat V c).before_in_eq_fetched 9 rfl (fun _ => rfl) (fun _ _ _ => rfl) (fun t => by rw [after_9]; unfold Dat.blockOf blk; rw [dat_A]; try rfl) t d).trans
    (by unfold Dat.fetched Dat.blockOf blk; rw [dat_A]; try rfl)

/-! ## The body obligation -/

/-- The inputs' buffers as a point finds them are the body's inputs at the point's blocks. -/
theorem inputs_of (c : Dev nD) (t : Fin cfg0.N) :
    iprop((∃ d, owns (c : Thread nD τ) (st0_0 t) fullShare ((dat V c).before 0 t d)) ∗ (∃ d, owns (c : Thread nD τ) (st0_1 t) fullShare ((dat V c).before 1 t d)) ∗ (∃ d, owns (c : Thread nD τ) (st0_2 t) fullShare ((dat V c).before 2 t d)) ∗ (∃ d, owns (c : Thread nD τ) (st0_3 t) fullShare ((dat V c).before 3 t d)) ∗ (∃ d, owns (c : Thread nD τ) (st0_4 t) fullShare ((dat V c).before 4 t d)) ∗ (∃ d, owns (c : Thread nD τ) (st0_5 t) fullShare ((dat V c).before 5 t d)) ∗ (∃ d, owns (c : Thread nD τ) (st0_6 t) fullShare ((dat V c).before 6 t d)) ∗ (∃ d, owns (c : Thread nD τ) (st0_7 t) fullShare ((dat V c).before 7 t d)) ∗ (∃ d, owns (c : Thread nD τ) (st0_8 t) fullShare ((dat V c).before 8 t d)) ∗ (∃ d, owns (c : Thread nD τ) (st0_9 t) fullShare ((dat V c).before 9 t d)))
      ⊢ inputs c (st0_0 t) (st0_1 t) (st0_2 t) (st0_3 t) (st0_4 t) (st0_5 t) (st0_6 t) (st0_7 t) (st0_8 t) (st0_9 t) (blk V c 0 t) (blk V c 1 t) (blk V c 2 t) (blk V c 3 t) (blk V c 4 t) (blk V c 5 t) (blk V c 6 t) (blk V c 7 t) (blk V c 8 t) (blk V c 9 t) := by
  simp only [before_0, before_1, before_2, before_3, before_4, before_5, before_6, before_7, before_8, before_9]
  unfold inputs
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's inputs at the point's blocks are what the pipeline asks the inputs' buffers to be left at. -/
theorem of_inputs (c : Dev nD) (t : Fin cfg0.N) :
    inputs c (st0_0 t) (st0_1 t) (st0_2 t) (st0_3 t) (st0_4 t) (st0_5 t) (st0_6 t) (st0_7 t) (st0_8 t) (st0_9 t) (blk V c 0 t) (blk V c 1 t) (blk V c 2 t) (blk V c 3 t) (blk V c 4 t) (blk V c 5 t) (blk V c 6 t) (blk V c 7 t) (blk V c 8 t) (blk V c 9 t)
      ⊢ iprop((dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t) := by
  rw [show (dat V c).leavesExact 0 t = owns (c : Thread nD τ) (st0_0 t) fullShare (blk V c 0 t) from by
    unfold Dat.leavesExact; rw [show cfg0.idle 0 (grid0.coords t) = false from rfl, after_0]]
  rw [show (dat V c).leavesExact 1 t = owns (c : Thread nD τ) (st0_1 t) fullShare (blk V c 1 t) from by
    unfold Dat.leavesExact; rw [show cfg0.idle 1 (grid0.coords t) = false from rfl, after_1]]
  rw [show (dat V c).leavesExact 2 t = owns (c : Thread nD τ) (st0_2 t) fullShare (blk V c 2 t) from by
    unfold Dat.leavesExact; rw [show cfg0.idle 2 (grid0.coords t) = false from rfl, after_2]]
  rw [show (dat V c).leavesExact 3 t = owns (c : Thread nD τ) (st0_3 t) fullShare (blk V c 3 t) from by
    unfold Dat.leavesExact; rw [show cfg0.idle 3 (grid0.coords t) = false from rfl, after_3]]
  rw [show (dat V c).leavesExact 4 t = owns (c : Thread nD τ) (st0_4 t) fullShare (blk V c 4 t) from by
    unfold Dat.leavesExact; rw [show cfg0.idle 4 (grid0.coords t) = false from rfl, after_4]]
  rw [show (dat V c).leavesExact 5 t = owns (c : Thread nD τ) (st0_5 t) fullShare (blk V c 5 t) from by
    unfold Dat.leavesExact; rw [show cfg0.idle 5 (grid0.coords t) = false from rfl, after_5]]
  rw [show (dat V c).leavesExact 6 t = owns (c : Thread nD τ) (st0_6 t) fullShare (blk V c 6 t) from by
    unfold Dat.leavesExact; rw [show cfg0.idle 6 (grid0.coords t) = false from rfl, after_6]]
  rw [show (dat V c).leavesExact 7 t = owns (c : Thread nD τ) (st0_7 t) fullShare (blk V c 7 t) from by
    unfold Dat.leavesExact; rw [show cfg0.idle 7 (grid0.coords t) = false from rfl, after_7]]
  rw [show (dat V c).leavesExact 8 t = owns (c : Thread nD τ) (st0_8 t) fullShare (blk V c 8 t) from by
    unfold Dat.leavesExact; rw [show cfg0.idle 8 (grid0.coords t) = false from rfl, after_8]]
  rw [show (dat V c).leavesExact 9 t = owns (c : Thread nD τ) (st0_9 t) fullShare (blk V c 9 t) from by
    unfold Dat.leavesExact; rw [show cfg0.idle 9 (grid0.coords t) = false from rfl, after_9]]
  exact .rfl

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d)) ∗ (∃ d, owns (c : Thread nD τ) (st0_1 t) fullShare ((dat V c).before 1 t d)) ∗ (∃ d, owns (c : Thread nD τ) (st0_2 t) fullShare ((dat V c).before 2 t d)) ∗ (∃ d, owns (c : Thread nD τ) (st0_3 t) fullShare ((dat V c).before 3 t d)) ∗ (∃ d, owns (c : Thread nD τ) (st0_4 t) fullShare ((dat V c).before 4 t d)) ∗ (∃ d, owns (c : Thread nD τ) (st0_5 t) fullShare ((dat V c).before 5 t d)) ∗ (∃ d, owns (c : Thread nD τ) (st0_6 t) fullShare ((dat V c).before 6 t d)) ∗ (∃ d, owns (c : Thread nD τ) (st0_7 t) fullShare ((dat V c).before 7 t d)) ∗ (∃ d, owns (c : Thread nD τ) (st0_8 t) fullShare ((dat V c).before 8 t d)) ∗ (∃ d, owns (c : Thread nD τ) (st0_9 t) fullShare ((dat V c).before 9 t d)) ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t ∗ (dat V c).leavesExact 10 t)

/-- The parts of a point's precondition, regrouped: the invariant and the dues, the inputs, the output's buffer. -/
theorem bodyPre_split (c : Dev nD) (t : Fin cfg0.N) :
    bodyPre V c t ⊢ iprop(inv V c t.val (Nat.le_of_lt t.isLt) ∗ (dat V c).owesAt () t.castSucc ∗ inputs c (st0_0 t) (st0_1 t) (st0_2 t) (st0_3 t) (st0_4 t) (st0_5 t) (st0_6 t) (st0_7 t) (st0_8 t) (st0_9 t) (blk V c 0 t) (blk V c 1 t) (blk V c 2 t) (blk V c 3 t) (blk V c 4 t) (blk V c 5 t) (blk V c 6 t) (blk V c 7 t) (blk V c 8 t) (blk V c 9 t)
      ∗ (∃ d, owns (c : Thread nD τ) (st0_10 t) fullShare ((dat V c).before 10 t d))) := by
  unfold bodyPre
  rw [dat_inv]
  iintro ⟨HI, Ho, H0, H1, H2, H3, H4, H5, H6, H7, H8, H9, H10⟩
  isplitl [HI]; · iexact HI
  isplitl [Ho]; · iexact Ho
  isplitr [H10]; swap; · iexact H10
  iapply (inputs_of V c t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- A point's postcondition, from its regrouped parts. -/
theorem bodyPost_join (c : Dev nD) (t : Fin cfg0.N) :
    iprop(((owns (c : Thread nD τ) acc fullShare (accAfter V c t.val t.isLt) ∗ others c) ∗ (∃ r, prngReg c r)) ∗ (dat V c).owesAt () t.castSucc ∗ inputs c (st0_0 t) (st0_1 t) (st0_2 t) (st0_3 t) (st0_4 t) (st0_5 t) (st0_6 t) (st0_7 t) (st0_8 t) (st0_9 t) (blk V c 0 t) (blk V c 1 t) (blk V c 2 t) (blk V c 3 t) (blk V c 4 t) (blk V c 5 t) (blk V c 6 t) (blk V c 7 t) (blk V c 8 t) (blk V c 9 t)
      ∗ (dat V c).leavesExact 10 t) ⊢ bodyPost V c t := by
  unfold bodyPost
  rw [show (dat V c).owesAt () t.succ = (dat V c).owesAt () t.castSucc from rfl,
    show (dat V c).Φ t.succ = iprop((owns (c : Thread nD τ) acc fullShare (accAfter V c t.val t.isLt) ∗ others c) ∗ (∃ r, prngReg c r)) from rfl]
  iintro ⟨HI, Ho, Hi, H10⟩
  ihave Hi := (of_inputs V c t) $$ Hi
  icases Hi with ⟨H0, H1, H2, H3, H4, H5, H6, H7, H8, H9⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1000000 in
/-- The body at any point: the first, a middle one or the last. -/
theorem sound_body (c : Dev nD) (t : Fin cfg0.N) :
    bodyPre V c t ⊢ wp frame (wpE (defs₀ (F := F)) Variants.none c none) Set.univ (bodyAt0 t) (fun _ => bodyPost V c t) := by
  have hN : t.val < 25 := lt_of_lt_of_eq t.isLt (show cfg0.N = 25 from N_0)
  refine (bodyPre_split V c t).trans ?_
  by_cases h0 : t.val = 0
  · have h1 : t.val ≠ 24 := by omega
    rw [inv_first V c _ _ h0, entry_eq]
    iintro ⟨⟨⟨HA, Hr⟩, Hg⟩, Ho, Hi, ⟨%d, H10⟩⟩
    iapply (first_run c (grid0.coords t) _ _ _ _ _ _ _ _ _ _ _ _ _ _ _ _ _ _ _ _ _ _ _ _ _ _ _ _ _ _ _ _ _ _ ((atStart_iff t).mpr h0) (fun h => h1 ((atEnd_iff t).mp h)) _ Set.univ _)
    isplitl [Hi]; · iexact Hi
    isplitl [H10]; · iexact H10
    isplitl [HA]; · iexact HA
    iintro ⟨Hi, H10, HA⟩
    iapply (bodyPost_join V c t)
    rw [accAfter_first V c t h0, Dat.leavesExact_idle (dat V c) 10 t (out_idle t h1) (out_kept t h1)]
    isplitl [HA Hr Hg]
    · isplitl [HA Hr]
      · isplitl [HA]; · iexact HA
        iexact Hr
      iexact Hg
    isplitl [Ho]; · iexact Ho
    isplitl [Hi]; · iexact Hi
    iexists _; iexact H10
  rw [inv_later V c _ _ h0]
  iintro ⟨⟨⟨HA, Hr⟩, Hg⟩, Ho, Hi, ⟨%d, H10⟩⟩
  by_cases h1 : t.val = 24
  · iapply (last_run c (grid0.coords t) _ _ _ _ _ _ _ _ _ _ _ _ _ _ _ _ _ _ _ _ _ _ _ _ _ _ _ _ _ _ _ _ _ _ (fun h => h0 ((atStart_iff t).mp h)) ((atEnd_iff t).mpr h1) _ Set.univ _)
    isplitl [Hi]; · iexact Hi
    isplitl [H10]; · iexists _; iexact H10
    isplitl [HA]; · iexact HA
    iintro ⟨Hi, H10, HA⟩
    iapply (bodyPost_join V c t)
    rw [show (dat V c).leavesExact 10 t = owns (c : Thread nD τ) (st0_10 t) fullShare (result V c t) from by
      unfold Dat.leavesExact; rw [out_live t h1, after_10]]
    unfold result
    rw [accAfter_later V c t h0]
    isplitl [HA Hr Hg]
    · isplitl [HA Hr]
      · isplitl [HA]; · iexact HA
        iexact Hr
      iexact Hg
    isplitl [Ho]; · iexact Ho
    isplitl [Hi]; · iexact Hi
    iexact H10
  · iapply (middle_run c (grid0.coords t) _ _ _ _ _ _ _ _ _ _ _ _ _ _ _ _ _ _ _ _ _ _ _ _ _ _ _ _ _ _ _ _ _ _ (fun h => h0 ((atStart_iff t).mp h)) (fun h => h1 ((atEnd_iff t).mp h)) _ _ Set.univ _)
    isplitl [Hi]; · iexact Hi
    isplitl [H10]; · iexact H10
    isplitl [HA]; · iexact HA
    iintro ⟨Hi, H10, HA⟩
    iapply (bodyPost_join V c t)
    rw [accAfter_later V c t h0, Dat.leavesExact_idle (dat V c) 10 t (out_idle t h1) (out_kept t h1)]
    isplitl [HA Hr Hg]
    · isplitl [HA Hr]
      · isplitl [HA]; · iexact HA
        iexact Hr
      iexact Hg
    isplitl [Ho]; · iexact Ho
    isplitl [Hi]; · iexact Hi
    iexists _; iexact H10

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dat V c) (defs₀ (F := F)) Variants.none () Set.univ := fun t => by
  rw [bigSep_W0, bigSep_W0, defs₀_row]
  exact triple_restated (sound_body V c t) rfl .rfl fun _ => .rfl

/-- After the last point the invariant gives back what the launch handed over. -/
theorem inv_out (c : Dev nD) : (dat V c).Φ (Fin.last cfg0.N) ⊢ Pipeline.ΦA spec0 c := by
  have hz : (Fin.last cfg0.N).val ≠ 0 := by rw [Fin.val_last]; have : cfg0.N = 25 := N_0; omega
  rw [show (dat V c).Φ (Fin.last cfg0.N) = inv V c (Fin.last cfg0.N).val (Nat.le_of_lt_succ (Fin.last cfg0.N).isLt) from rfl, inv_later V c _ _ hz, entry_eq]
  iintro ⟨⟨HA, Hr⟩, Hg⟩
  isplitl [HA Hr]
  · isplitl [HA]; · iexists _; iexact HA
    iexact Hr
  iexact Hg

end Cert.KernelIdeal.Matmul

end
-- ==== Proof.HeadsBodyIdeal.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The class columns: the hidden layer through the class head, with its bias. -/
def classHead (x0 : Vec F S1024x2000 .f32) (x1 : Vec F S2000x1000 .f32) (x2 : Vec F S1x1000 .f32) (x3 : Vec F S1000x2000 .f32) (x4 : Vec F S1x2000 .f32) (x5 : Vec F S1x1000 .f32) (x6 : Vec F S1x1000 .f32) (x7 : Vec F S1000x500 .f32) (x8 : Vec F S1x500 .f32) : Vec F S1024x2000 .f32 :=
  k1_pay3 (View.ld x0 (Rect.unit (s := S1024x2000) ![0, 0] S1024x2000.size inb_S1024x2000_S1024x2000_0_0))
    (View.ld x1 (Rect.unit (s := S2000x1000) ![0, 0] S2000x1000.size inb_S2000x1000_S2000x1000_0_0))
    (View.ld x2 (Rect.unit (s := S1x1000) ![0, 0] S1x1000.size inb_S1x1000_S1x1000_0_0))
    (View.ld x3 (Rect.unit (s := S1000x2000) ![0, 0] S1000x2000.size inb_S1000x2000_S1000x2000_0_0))
    (View.ld x4 (Rect.unit (s := S1x2000) ![0, 0] S1x2000.size inb_S1x2000_S1x2000_0_0))

/-- The regression columns: the hidden layer through the regression head, with its bias. -/
def regHead (x0 : Vec F S1024x2000 .f32) (x1 : Vec F S2000x1000 .f32) (x2 : Vec F S1x1000 .f32) (x3 : Vec F S1000x2000 .f32) (x4 : Vec F S1x2000 .f32) (x5 : Vec F S1x1000 .f32) (x6 : Vec F S1x1000 .f32) (x7 : Vec F S1000x500 .f32) (x8 : Vec F S1x500 .f32) : Vec F S1024x500 .f32 :=
  k1_pay1 (k1_pay4 (View.ld x0 (Rect.unit (s := S1024x2000) ![0, 0] S1024x2000.size inb_S1024x2000_S1024x2000_0_0))
    (View.ld x1 (Rect.unit (s := S2000x1000) ![0, 0] S2000x1000.size inb_S2000x1000_S2000x1000_0_0))
    (View.ld x2 (Rect.unit (s := S1x1000) ![0, 0] S1x1000.size inb_S1x1000_S1x1000_0_0))
    (View.ld x5 (Rect.unit (s := S1x1000) ![0, 0] S1x1000.size inb_S1x1000_S1x1000_0_0))
    (View.ld x6 (Rect.unit (s := S1x1000) ![0, 0] S1x1000.size inb_S1x1000_S1x1000_0_0))
    (View.ld x7 (Rect.unit (s := S1000x500) ![0, 0] S1000x500.size inb_S1000x500_S1000x500_0_0)))
    (View.ld x8 (Rect.unit (s := S1x500) ![0, 0] S1x500.size inb_S1x500_S1x500_0_0))

/-- The two stores of the output block, the last one first. -/
def halves (x0 : Vec F S1024x2000 .f32) (x1 : Vec F S2000x1000 .f32) (x2 : Vec F S1x1000 .f32) (x3 : Vec F S1000x2000 .f32) (x4 : Vec F S1x2000 .f32) (x5 : Vec F S1x1000 .f32) (x6 : Vec F S1x1000 .f32) (x7 : Vec F S1000x500 .f32) (x8 : Vec F S1x500 .f32) : List (View.Piece (Elt F) S1024x2500 .f32) :=
  [⟨Rect.unit (s := S1024x2500) ![0, 2000] S1024x500.size inb_S1024x2500_S1024x500_0_2000, regHead x0 x1 x2 x3 x4 x5 x6 x7 x8⟩,
   ⟨Rect.unit (s := S1024x2500) ![0, 0] S1024x2000.size inb_S1024x2500_S1024x2000_0_0, classHead x0 x1 x2 x3 x4 x5 x6 x7 x8⟩]

/-- The two stores cover the output block. -/
theorem halves_cover (x0 : Vec F S1024x2000 .f32) (x1 : Vec F S2000x1000 .f32) (x2 : Vec F S1x1000 .f32) (x3 : Vec F S1000x2000 .f32) (x4 : Vec F S1x2000 .f32) (x5 : Vec F S1x1000 .f32) (x6 : Vec F S1x1000 .f32) (x7 : Vec F S1000x500 .f32) (x8 : Vec F S1x500 .f32)
    (y : S1024x2500.Idx) : ∃ p ∈ halves x0 x1 x2 x3 x4 x5 x6 x7 x8, y ∈ p.1.set :=
  View.cover_of_tiledBy (halves x0 x1 x2 x3 x4 x5 x6 x7 x8) ![1024, 500] (by sl_kernel_rfl) y

/-- The output block, as a function of the operand blocks. -/
def heads (x0 : Vec F S1024x2000 .f32) (x1 : Vec F S2000x1000 .f32) (x2 : Vec F S1x1000 .f32) (x3 : Vec F S1000x2000 .f32) (x4 : Vec F S1x2000 .f32) (x5 : Vec F S1x1000 .f32) (x6 : Vec F S1x1000 .f32) (x7 : Vec F S1000x500 .f32) (x8 : Vec F S1x500 .f32) : Vec F S1024x2500 .f32 :=
  View.canon (halves x0 x1 x2 x3 x4 x5 x6 x7 x8)

section Body
variable (c : Dev nD)
  (X0 : Memref sig .tc .vmem S1024x2000 .f32) (hX0 : X0.IsWhole)
  (X1 : Memref sig .tc .vmem S2000x1000 .f32) (hX1 : X1.IsWhole)
  (X2 : Memref sig .tc .vmem S1x1000 .f32) (hX2 : X2.IsWhole)
  (X3 : Memref sig .tc .vmem S1000x2000 .f32) (hX3 : X3.IsWhole)
  (X4 : Memref sig .tc .vmem S1x2000 .f32) (hX4 : X4.IsWhole)
  (X5 : Memref sig .tc .vmem S1x1000 .f32) (hX5 : X5.IsWhole)
  (X6 : Memref sig .tc .vmem S1x1000 .f32) (hX6 : X6.IsWhole)
  (X7 : Memref sig .tc .vmem S1000x500 .f32) (hX7 : X7.IsWhole)
  (X8 : Memref sig .tc .vmem S1x500 .f32) (hX8 : X8.IsWhole)
  (O : Memref sig .tc .vmem S1024x2500 .f32) (hO : O.IsWhole)
  (x0 : Vec F S1024x2000 .f32) (x1 : Vec F S2000x1000 .f32) (x2 : Vec F S1x1000 .f32) (x3 : Vec F S1000x2000 .f32) (x4 : Vec F S1x2000 .f32) (x5 : Vec F S1x1000 .f32) (x6 : Vec F S1x1000 .f32) (x7 : Vec F S1000x500 .f32) (x8 : Vec F S1x500 .f32)

/-- The operand blocks in their staging buffers, whole. -/
def inputs : sProp 𝕄 :=
  iprop(owns (c : Thread nD τ) X0 fullShare x0 ∗ owns (c : Thread nD τ) X1 fullShare x1 ∗ owns (c : Thread nD τ) X2 fullShare x2 ∗ owns (c : Thread nD τ) X3 fullShare x3 ∗ owns (c : Thread nD τ) X4 fullShare x4 ∗ owns (c : Thread nD τ) X5 fullShare x5 ∗ owns (c : Thread nD τ) X6 fullShare x6 ∗ owns (c : Thread nD τ) X7 fullShare x7 ∗ owns (c : Thread nD τ) X8 fullShare x8)

set_option maxHeartbeats 1000000 in
/-- The one point: the operand blocks are read, and the output buffer is stored over whole. -/
theorem run (E : Set ℕ) (K : PUnit → sProp 𝕄) :
    iprop(inputs c X0 X1 X2 X3 X4 X5 X6 X7 X8 x0 x1 x2 x3 x4 x5 x6 x7 x8 ∗ (∃ d, owns (c : Thread nD τ) O fullShare d)
      ∗ (iprop(inputs c X0 X1 X2 X3 X4 X5 X6 X7 X8 x0 x1 x2 x3 x4 x5 x6 x7 x8 ∗ owns (c : Thread nD τ) O fullShare (heads x0 x1 x2 x3 x4 x5 x6 x7 x8)) -∗ K ⟨⟩))
      ⊢ wp frame (wpE (defs₀ (F := F)) Variants.none c none) E
          (cc1__heads_kernel X0 hX0 X1 hX1 X2 hX2 X3 hX3 X4 hX4 X5 hX5 X6 hX6 X7 hX7 X8 hX8 O hO) K := by
  simp only [cc1__heads_kernel_eq_skeleton]; unfold cc1__heads_kernel_skel
  simp only [k1_part1_eq_skeleton]
  unfold inputs owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d, %fo, -, HO⟩, Hk⟩
  sl_exec
  sl_step
  iapply Hk
  isplitl [H0 H1 H2 H3 H4 H5 H6 H7 H8]
  · isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    isplitl [H7]; · iexists f7; isplitr; · ipureintro; exact e7
                    iexact H7
    iexists f8; isplitr; · ipureintro; exact e8
    iexact H8
  subst e0; subst e1; subst e2; subst e3; subst e4; subst e5; subst e6; subst e7; subst e8
  iexists _; isplitr; swap; · iexact HO
  ipureintro
  exact View.read_writes_eq_canon O.view fo (halves _ _ _ _ _ _ _ _ _) (halves_cover _ _ _ _ _ _ _ _ _)

end Body

end Cert.KernelIdeal.Heads

end
-- ==== Proof.HeadsRegionIdeal.lean ====
module

public import proofs.«01_k».proof.Proof.HeadsBodyIdeal
public import Idealize.ShloMosaic.Lib.Pipeline.Frame

@[expose] public section

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w`, read off its array as the pipeline finds it. -/
def blk (c : Dev nD) (w : Fin cfg1.W) (t : Fin cfg1.N) : ((cfg1.win w).xblock (grid1.coords t)).Idx → Elt F (cfg1.win w).elt :=
  ((cfg1.win w).blk t).view.read (Elt F) (V c (Pipeline.arrRef spec1 w))

/-- What the point stores in the output block. -/
def result (c : Dev nD) (t : Fin cfg1.N) : Vec F S1024x2500 .f32 :=
  heads (blk V c 0 t) (blk V c 1 t) (blk V c 2 t) (blk V c 3 t) (blk V c 4 t) (blk V c 5 t) (blk V c 6 t) (blk V c 7 t) (blk V c 8 t)

/-- The proof data: the arrays as found; after the point each input's buffer still at its block and the output's at `result`;
    between points what the launch hands over; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => result V c t
  Φ _ := Pipeline.ΦA spec1 c
  q w := Pipeline.shareOf spec1 w
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = blk V c 8 t := by dsimp only [dat]
theorem after_9 (c : Dev nD) (t : Fin cfg1.N) : (dat V c).after 9 t = result V c t := by dsimp only [dat]

/-! Each input's buffer holds its block. -/

theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [dat_A]; try rfl) t d).trans
    (by unfold Dat.fetched Dat.blockOf blk; rw [dat_A]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [dat_A]; try rfl) t d).trans
    (by unfold Dat.fetched Dat.blockOf blk; rw [dat_A]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [dat_A]; try rfl) t d).trans
    (by unfold Dat.fetched Dat.blockOf blk; rw [dat_A]; try rfl)
theorem before_5 (c : Dev nD) (t : Fin cfg1.N) (d) : (dat V c).before 5 t d = blk V c 5 t :=
  ((dat V c).before_in_eq_fetched 5 rfl (fun _ => rfl) (fun _ _ _ => rfl) (fun t => by rw [after_5]; unfold Dat.blockOf blk; rw [dat_A]; try rfl) t d).trans
    (by unfold Dat.fetched Dat.blockOf blk; rw [dat_A]; try rfl)
theorem before_6 (c : Dev nD) (t : Fin cfg1.N) (d) : (dat V c).before 6 t d = blk V c 6 t :=
  ((dat V c).before_in_eq_fetched 6 rfl (fun _ => rfl) (fun _ _ _ => rfl) (fun t => by rw [after_6]; unfold Dat.blockOf blk; rw [dat_A]; try rfl) t d).trans
    (by unfold Dat.fetched Dat.blockOf blk; rw [dat_A]; try rfl)
theorem before_7 (c : Dev nD) (t : Fin cfg1.N) (d) : (dat V c).before 7 t d = blk V c 7 t :=
  ((dat V c).before_in_eq_fetched 7 rfl (fun _ => rfl) (fun _ _ _ => rfl) (fun t => by rw [after_7]; unfold Dat.blockOf blk; rw [dat_A]; try rfl) t d).trans
    (by unfold Dat.fetched Dat.blockOf blk; rw [dat_A]; try rfl)
theorem before_8 (c : Dev nD) (t : Fin cfg1.N) (d) : (dat V c).before 8 t d = blk V c 8 t :=
  ((dat V c).before_in_eq_fetched 8 rfl (fun _ => rfl) (fun _ _ _ => rfl) (fun t => by rw [after_8]; unfold Dat.blockOf blk; rw [dat_A]; try rfl) t d).trans
    (by unfold Dat.fetched Dat.blockOf blk; rw [dat_A]; try rfl)

/-! ## The body obligation -/

/-- What the body is called with, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d)) ∗ (∃ d, owns (c : Thread nD τ) (st1_1 t) fullShare ((dat V c).before 1 t d)) ∗ (∃ d, owns (c : Thread nD τ) (st1_2 t) fullShare ((dat V c).before 2 t d)) ∗ (∃ d, owns (c : Thread nD τ) (st1_3 t) fullShare ((dat V c).before 3 t d)) ∗ (∃ d, owns (c : Thread nD τ) (st1_4 t) fullShare ((dat V c).before 4 t d)) ∗ (∃ d, owns (c : Thread nD τ) (st1_5 t) fullShare ((dat V c).before 5 t d)) ∗ (∃ d, owns (c : Thread nD τ) (st1_6 t) fullShare ((dat V c).before 6 t d)) ∗ (∃ d, owns (c : Thread nD τ) (st1_7 t) fullShare ((dat V c).before 7 t d)) ∗ (∃ d, owns (c : Thread nD τ) (st1_8 t) fullShare ((dat V c).before 8 t d)) ∗ (∃ d, owns (c : Thread nD τ) (st1_9 t) fullShare ((dat V c).before 9 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t) ∗ owns (c : Thread nD τ) (st1_1 t) fullShare ((dat V c).after 1 t) ∗ owns (c : Thread nD τ) (st1_2 t) fullShare ((dat V c).after 2 t) ∗ owns (c : Thread nD τ) (st1_3 t) fullShare ((dat V c).after 3 t) ∗ owns (c : Thread nD τ) (st1_4 t) fullShare ((dat V c).after 4 t) ∗ owns (c : Thread nD τ) (st1_5 t) fullShare ((dat V c).after 5 t) ∗ owns (c : Thread nD τ) (st1_6 t) fullShare ((dat V c).after 6 t) ∗ owns (c : Thread nD τ) (st1_7 t) fullShare ((dat V c).after 7 t) ∗ owns (c : Thread nD τ) (st1_8 t) fullShare ((dat V c).after 8 t) ∗ owns (c : Thread nD τ) (st1_9 t) fullShare ((dat V c).after 9 t))

set_option maxHeartbeats 1000000 in
/-- The body at the point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8]
  rw [show (dat V c).Φ t.succ = (dat V c).Φ t.castSucc from rfl,
    show (dat V c).owesAt () t.succ = (dat V c).owesAt () t.castSucc from rfl, after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c _ _ _ _ _ _ _ _ _ _ _ _ _ _ _ _ _ _ _ _ _ _ _ _ _ _ _ _ _ Set.univ _)
  isplitl [H0 H1 H2 H3 H4 H5 H6 H7 H8]
  · unfold inputs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  unfold inputs
  iintro ⟨⟨H0, H1, H2, H3, H4, H5, H6, H7, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point's slots is the body. -/
theorem defs₀_row (t : Fin cfg1.N) :
    defs₀ (F := F) .tc cfg1.body (cfg1.bodyArgs t (cfg1.slots t)) = bodyAt1 t := by
  unfold defs₀; rw [Defs.onTc_tc]

/-- The pipeline's obligation on the body. -/
theorem obligation (c : Dev nD) : BodyObligation (dat V c) (defs₀ (F := F)) Variants.none () Set.univ := fun t => by
  rw [bigSep_W1, bigSep_W1, defs₀_row]
  exact triple_restated (sound_body V c t) rfl .rfl fun _ => .rfl

end Cert.KernelIdeal.Heads

end
-- ==== Proof.LaunchIdeal.lean ====
module

public import proofs.«01_k».proof.Proof.MatmulRegionIdeal
public import proofs.«01_k».proof.Proof.HeadsRegionIdeal
public import proofs.«01_k».proof.Proof.Gen.KernelIdeal.Regions
public import Idealize.ShloMosaic.Lib.Pipeline.Regions
public import Idealize.ShloMosaic.Lib.Pipeline.RegionArrays
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligationLoose)

variable {F : FTy → Type} [FloatOps F]

local notation "𝕄" => MT nD τ sig Unit (Elt F) ℕ (UR sig nD τ) ℕ

/-! ## The buffers' contents between the items of @main -/

variable (m : (ℓ : Loc nD τ sig) → Buf (Elt F) ℓ) (ρ : Dev nD → PrngReg)

/-- The contents the first call finds: the host's reshapes have run. -/
def found (c : Dev nD) : Valuation τ sig (Elt F) := V1 m c

/-- The contents the second call finds: the first call's arrays at what its schedule leaves in them. -/
def middle (c : Dev nD) : Valuation τ sig (Elt F) :=
  Pipeline.withArrays spec0 c (found m c) fun w => (Matmul.dat (found m) c).arrAt w cfg0.N

/-- The contents at the end: the second call's arrays at what its schedule leaves in them. -/
def final (c : Dev nD) : Valuation τ sig (Elt F) :=
  Pipeline.withArrays spec1 c (middle m c) fun w => (Heads.dat (middle m) c).arrAt w cfg1.N

/-- The two calls' proof data, each over the contents it finds. -/
def dats : (p : Fin 2) → (c : Dev nD) → Dat τ (Elt F) Unit ℕ (UR sig nD τ) ℕ (cfgs p) c
  | ⟨0, _⟩ => Matmul.dat (found m)
  | ⟨1, _⟩ => Heads.dat (middle m)

/-! ## The thread's state between items -/

/-- No core owes another anything: no level is assigned. -/
abbrev L : GSem nD τ sig → Finset Unit := fun _ => ∅
abbrev lv : GSem nD τ sig → Unit → ℕ := fun _ _ => 0

/-- What rides beside the buffers: the generator's register at something, and nothing owed. -/
def side (c : Dev nD) : sProp 𝕄 :=
  iprop((∃ r, prngReg c r) ∗ ∃ W, owes (c : Thread nD τ) (0 : CellTallies nD τ sig Unit) W)

/-- The whole state: every buffer that outlives the calls at `V`, and the side. -/
def between (V : Dev nD → Valuation τ sig (Elt F)) (c : Dev nD) : sProp 𝕄 :=
  iprop(StableHlo.held (c : Thread nD τ) (Pipeline.ucRefs τ sig) (V c) ∗ side c)

section Region

variable (p : Fin 2)

-- the library's lemmas speak of a configuration reached through a family: unifying takes unfolding plain definitions
set_option backward.isDefEq.respectTransparency.types false in
/-- A call of this program as a segment: entered with the buffers at `E`, left with them at `E'`, where `E'` has the call's
    arrays at what its schedule leaves and everything else as in `E`. -/
def region (pdats : (p : Fin 2) → (c : Dev nD) → Dat τ (Elt F) Unit ℕ (UR sig nD τ) ℕ (cfgs p) c)
    (kit : Pipeline.LaunchFacts₀ (nD := nD) (τ := τ) cfgs p)
    (E E' : Dev nD → Valuation τ sig (Elt F))
    (hbody : ∀ c, BodyObligationLoose (pdats p c) (defs₀ (F := F)) Variants.none () Set.univ)
    (howed : ∀ c t, (pdats p c).owed t = 0) (hrec : ∀ c, (pdats p c).recorded 0 = Set.univ)
    (hq : ∀ c w, ((cfgs p).spec w).isOut = false → (pdats p c).q w = Pipeline.shareOf (cfgs p).spec w)
    (hA : ∀ c w, (pdats p c).A w = E c (Pipeline.arrRef (cfgs p).spec w))
    (hin : ∀ c, Pipeline.ΦA (cfgs p).spec c ⊢ (pdats p c).Φ 0)
    (hout : ∀ c, (pdats p c).Φ (Fin.last (cfgs p).N) ⊢ Pipeline.ΦA (cfgs p).spec c)
    (hF : ∀ c w, (pdats p c).arrAt w (cfgs p).N = E' c (Pipeline.arrRef (cfgs p).spec w))
    (hrest : ∀ c (b : Ref sig .tc), b ∉ Finset.univ.image (Pipeline.arrRef (cfgs p).spec) → E' c b = E c b) :
    RegionSeg (pcfgs (F := F)) adm pdats () defs₀ Variants.none L lv p where
  win := kit.win
  block_pos := kit.block_pos
  stage_whole := kit.stage_whole
  K := PEmpty
  osem k := k.elim
  ho := Pipeline.OwnSemFacts.none _
  hbody := hbody
  hwaits := Pipeline.hwaits_of_owed_zero _ _ _ _ L lv p howed
  pre := between E
  post := between E'
  X c := iprop(∃ r, prngReg c r)
  Y c := iprop(∃ r, prngReg c r)
  Z c := Pipeline.unscopedRest (cfgs p).spec c (fun b => E c b)
  hentry c := by
    unfold between side
    rw [← Pipeline.unscopedBufs_held (Ix := Unit) (Name := ℕ) (U := UR sig nD τ) (Lvl := ℕ) c (E c), Pipeline.ownSems0_none,
      Pipeline.prefHeld_of_none _ rfl]
    have hsplit := Pipeline.arrays_of_unscopedBufs_shared (pcfgs (F := F)) adm pdats (p := p) kit.win kit.sharedIn kit.arr_whole c
      (hq c) (fun b => E c b) (hA c)
    iintro ⟨⟨Hb, HX, HO⟩, -, -⟩
    ihave H := hsplit $$ Hb
    icases H with ⟨Ha, HR⟩
    imodintro
    isplitl [Ha]; · iexact Ha
    isplitr; · iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [HX]; · iexact HX
    iexact HR
  hin c := (show _ ⊢ Pipeline.ΦA (cfgs p).spec c from by
    unfold Pipeline.ΦA
    iintro ⟨HX, -, Hr⟩
    isplitl [Hr]; · iexact Hr
    iexact HX).trans (hin c)
  hout c := (hout c).trans (by
    unfold Pipeline.ΦA
    rw [Pipeline.ownSems0_none]
    iintro ⟨Hr, HY⟩
    isplitl [HY]; · iexact HY
    isplitr; · iempintro
    iexact Hr)
  hexit c := by
    unfold between side
    rw [← Pipeline.unscopedBufs_held (Ix := Unit) (Name := ℕ) (U := UR sig nD τ) (Lvl := ℕ) c (E' c)]
    have hjoin := Pipeline.unscopedBufs_of_arrays_shared (pcfgs (F := F)) adm (p := p) kit.win kit.sharedIn kit.arr_whole c pdats
      (hq c) (fun b => E c b) (fun b => E' c b) _ (hF c) (hrest c)
    iintro ⟨Ha, HO, HY, HR⟩
    imodintro
    isplitl [Ha HR]
    · iapply hjoin
      isplitl [Ha] <;> iassumption
    isplitl [HY]; · iexact HY
    unfold Pipeline.Dat.owesAt Pipeline.owesWithin
    rw [howed c (Fin.last _)]
    icases HO with ⟨%W, -, HO⟩; iexists W; iexact HO

end Region

/-- The first call. -/
def region0 : RegionSeg (pcfgs (F := F)) adm (dats m) () defs₀ Variants.none L lv 0 :=
  region 0 (dats m) launch₀0 (found m) (middle m) (fun c => (Matmul.obligation (found m) c).loose) (fun _ _ => rfl) (fun _ => rfl)
    (fun _ _ _ => rfl) (fun c w => Matmul.dat_A (found m) c w) (fun _ => .rfl) (fun c => Matmul.inv_out (found m) c)
    (fun c w => ((Matmul.dat (found m) c).withArrays_arrAt launch₀0.sharedIn (found m c) (Matmul.dat_A (found m) c) w).symm)
    (fun c b hb => Pipeline.withArrays_of_ne spec0 c (found m c) _ b fun w e => hb (Finset.mem_image.mpr ⟨w, Finset.mem_univ w, e⟩))

/-- The second call. -/
def region1 : RegionSeg (pcfgs (F := F)) adm (dats m) () defs₀ Variants.none L lv 1 :=
  region 1 (dats m) launch1.to₀ (middle m) (final m) (fun c => (Heads.obligation (middle m) c).loose) (fun _ _ => rfl) (fun _ => rfl)
    (fun _ _ _ => rfl) (fun c w => Heads.dat_A (middle m) c w) (fun _ => .rfl) (fun _ => .rfl)
    (fun c w => ((Heads.dat (middle m) c).withArrays_arrAt launch1.to₀.sharedIn (middle m c) (Heads.dat_A (middle m) c) w).symm)
    (fun c b hb => Pipeline.withArrays_of_ne spec1 c (middle m c) _ b fun w e => hb (Finset.mem_image.mpr ⟨w, Finset.mem_univ w, e⟩))

/-- The host's reshapes. -/
def host0 : HostSeg (Ix := Unit) (Name := ℕ) (U := UR sig nD τ) (Lvl := ℕ) (pcfgs (F := F)) defs₀ Variants.none L lv :=
  seg0 m Variants.none L lv fun _ => side

/-- @main as its three items. -/
abbrev items (_ : Dev nD) : List (Seg (pcfgs (F := F)) adm (dats m) () defs₀ Variants.none L lv) :=
  [.host (host0 m), .region (region0 m), .region (region1 m)]

-- the launch theorem's implicit arguments are found by unifying its conclusion with this one, which takes unfolding plain
-- definitions in a metavariable's type
set_option backward.isDefEq.respectTransparency.types false in
/-- THE RUN: from any memory with zero counters every weakly fair execution of @main terminates, every buffer that outlives
    the calls ends at `final`, and every counter ends at zero. -/
theorem run : θ_run defs (onTc (τ := τ) (main (F := F))) ⟨m, fun _ => 0, ρ⟩ (fun r =>
    (∀ c : Dev nD, ∀ b ∈ Pipeline.ucRefs τ sig, r.2.mem (c, b) = final m c b) ∧ r.2.sem = fun _ => 0) := by
  refine Pipeline.θ_run_regions_kit_dev_sems (pcfgs (F := F)) adm (dats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := between (V0 m))
    (Tₙ := fun c => StableHlo.held (c : Thread nD τ) (Pipeline.ucRefs τ sig) (final m c))
    (hch := fun c => ⟨.rfl, .rfl, .rfl, ?_⟩)
    (hinit := ?_) (QY := fun c s => ∀ b ∈ Pipeline.ucRefs τ sig, s.mem (c, b) = final m c b)
    (hfin := fun c s' => ?_) (hQ := fun _ h hz => ⟨h, funext fun g => hz g (.inr (regions_no_unscoped g.2))⟩)
  · -- the launch element is the pipelines' whole share
    rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · -- after the last item only the owing is kept of the side
    show between (final m) c ⊢ _
    unfold between side
    iintro ⟨Hh, -, HO⟩
    isplitl [Hh]; · iexact Hh
    iexact HO
  · -- the launch: each core's buffers, register and owing
    refine Pipeline.initEach L lv fun c => ?_
    unfold between side
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, HP, -⟩, -⟩
    imodintro
    isplitl [Hh]; · iexact Hh
    isplitl [HP]; · iexists _; iexact HP
    iexists ∅; iexact HO
  · -- the end: every buffer read off the last valuation
    unfold StableHlo.held
    iintro ⟨Hh, HSI⟩
    ihave Hr := (pointsTo_read_all (Pipeline.ucRefs τ sig) (fun b => ((c : Thread nD τ).1, b)) (final m c) s') $$ [Hh HSI]
    · isplitl [Hh] <;> iassumption
    icases Hr with ⟨%h, HSI⟩
    imodintro
    isplitr; · ipureintro; exact h
    iexact HSI

/-- An unscoped reference is among the buffers that outlive the calls. -/
theorem mem_kept (r : Ref sig .tc) (h : r.isScoped = false) : Proc.devRef (τ := τ) .tc r ∈ Pipeline.ucRefs τ sig :=
  Finset.mem_filter.mpr ⟨StableHlo.devRef_mem_tcRefs r, fun h' => Bool.false_ne_true (h.symm.trans h')⟩

/-! ## What no item changes -/

/-- A window's array after a call that only reads it. -/
theorem middle_read (c : Dev nD) (w : Fin cfg0.W) (hw : (cfg0.win w).isOut = false) :
    middle m c (Pipeline.arrRef spec0 w) = found m c (Pipeline.arrRef spec0 w) :=
  ((Matmul.dat (found m) c).withArrays_arrAt launch₀0.sharedIn (found m c) (Matmul.dat_A (found m) c) w).trans
    (((Matmul.dat (found m) c).arrAt_in w hw _).trans (Matmul.dat_A (found m) c w))

theorem final_read (c : Dev nD) (w : Fin cfg1.W) (hw : (cfg1.win w).isOut = false) :
    final m c (Pipeline.arrRef spec1 w) = middle m c (Pipeline.arrRef spec1 w) :=
  ((Heads.dat (middle m) c).withArrays_arrAt launch1.to₀.sharedIn (middle m c) (Heads.dat_A (middle m) c) w).trans
    (((Heads.dat (middle m) c).arrAt_in w hw _).trans (Heads.dat_A (middle m) c w))

/-- The first call changes its output's array only. -/
theorem middle_of (c : Dev nD) (b : Ref sig .tc) (hb : b ≠ main_v6) : middle m c b = found m c b := by
  by_cases h : ∃ w : Fin cfg0.W, Pipeline.arrRef spec0 w = b
  · obtain ⟨w, rfl⟩ := h
    exact middle_read m c w ((show ∀ w : Fin cfg0.W, Pipeline.arrRef spec0 w ≠ main_v6 → (cfg0.win w).isOut = false by decide) w hb)
  · exact Pipeline.withArrays_of_ne spec0 c (found m c) _ b fun w e => h ⟨w, e⟩

/-- The second call changes its output's array only. -/
theorem final_of (c : Dev nD) (b : Ref sig .tc) (hb : b ≠ main_v7) : final m c b = middle m c b := by
  by_cases h : ∃ w : Fin cfg1.W, Pipeline.arrRef spec1 w = b
  · obtain ⟨w, rfl⟩ := h
    exact final_read m c w ((show ∀ w : Fin cfg1.W, Pipeline.arrRef spec1 w ≠ main_v7 → (cfg1.win w).isOut = false by decide) w hb)
  · exact Pipeline.withArrays_of_ne spec1 c (middle m c) _ b fun w e => h ⟨w, e⟩

/-- A buffer no item writes ends as launched. -/
theorem final_arg (c : Dev nD) (b : Ref sig .tc) (h7 : b ≠ main_v7) (h6 : b ≠ main_v6) (h : b ∉ hostOps0_W) :
    final m c b = m ((c : Thread nD τ).loc b) :=
  (final_of m c b h7).trans ((middle_of m c b h6).trans ((V1_of m c b h).trans rfl))

/-- What the second call leaves in the result's buffer. -/
theorem final_out (c : Dev nD) : final m c main_v7 = (Heads.dat (middle m) c).arrAt 9 cfg1.N :=
  (Heads.dat (middle m) c).withArrays_arrAt launch1.to₀.sharedIn (middle m c) (Heads.dat_A (middle m) c) 9

/-- What the first call leaves in its output. -/
theorem middle_out (c : Dev nD) : middle m c main_v6 = (Matmul.dat (found m) c).arrAt 10 cfg0.N :=
  (Matmul.dat (found m) c).withArrays_arrAt launch₀0.sharedIn (found m c) (Matmul.dat_A (found m) c) 10

/-- THE FRAME: every argument ends as launched and every counter at zero, from every memory with zero counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => by
    have k (c : Dev nD) (b : Ref sig .tc) (hs : b.isScoped = false) (h7 : b ≠ main_v7) (h6 : b ≠ main_v6) (hw : b ∉ hostOps0_W) :
        r.2.mem ((c.tc : Thread nD τ).loc b) = m ((c.tc : Thread nD τ).loc b) :=
      (h.1 c _ (mem_kept b hs)).trans (final_arg m c b h7 h6 hw)
    refine ⟨fun c => ⟨?_, ?_, ?_, ?_, ?_, ?_, ?_, ?_, ?_, ?_, ?_⟩, h.2⟩ <;>
      exact k c _ (by decide) (by decide) (by decide) (by decide)) (run m ρ)

end Cert.KernelIdeal.Run

end
-- ==== Proof.MatmulValue.lean ====
/-
  What the first kernel leaves in its output array, over the extended reals: every entry is the rectified sum of the
  bias and of the inner product, over all 32000 columns, of the row of `X` with the column of `W`.

  One point adds, to each of the four row quarters of the accumulator, the five products of a 256-column chunk of the
  quarter's `X` block with a `W` block. Read at an entry, that is 1280 more terms of the inner product; after the last
  of the 25 points all 32000 are there.
-/
module

public import proofs.«01_k».proof.Proof.MatmulRegionIdeal
public import Idealize.ShloMosaic.Lib.Pipeline.Value
public import Idealize.ShloMosaic.Lib.ValueIdx
public import Idealize.ShloMosaic.Lib.MatmulPlain
public import Idealize.ShloMosaic.Lib.IdealHost

@[expose] public section

set_option maxRecDepth 16384

noncomputable section

namespace Cert.KernelIdeal.Matmul

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window)

/-! ## One quarter, at an entry -/

/-- A product into a zero accumulator, read at an entry, is the sum of the products of the entries. -/
theorem product_entry (x : FVec Ideal S256x256 .f32) (w : FVec Ideal S256x2000 .f32) (p : Fin 256) (q : Fin 2000) :
    matmul (F := Ideal) (φ₁ := .f32) (φ₂ := .f32) dot_S256x256_S256x2000_S256x2000_1_0_0_1_n_n none x w (constant S256x2000 .f32 0x00000000#32) (ix2 p q)
      = ∑ l : Fin 256, x (ix2 p l) * w (ix2 l q) := by
  have h := Ideal.matmul_plain_apply (M := 256) (K := 256) (N := 2000) (φ₁ := .f32) (φ₂ := .f32) none x w
    (constant S256x2000 .f32 0x00000000#32) p q
  refine Eq.trans ?_ (h.trans ?_)
  · rfl
  · show Ideal.ofBits .f32 0x00000000#32 + _ = _
    rw [Ideal.ofBits_zero_f32, zero_add]

/-- A chunk of 256 columns of an `X` block, read at an entry. -/
theorem chunk_entry (x : FVec Ideal S256x1280 .f32) (o : ℕ) (ho : o + 256 ≤ 1280)
    (h : ∀ a, (![0, o] : Fin 2 → ℕ) a + S256x256.size a ≤ S256x1280.size a) (p : Fin 256) (l : Fin 256) :
    View.ld (Val := Elt Ideal) (e' := .f32) x (Rect.unit (s := S256x1280) ![0, o] S256x256.size h) (ix2 p l)
      = x (ix2 p ⟨o + l.val, by omega⟩) := by
  refine congrArg x (Shape.idx_ext₂ ?_ ?_)
  · show 0 + 1 * p.val = p.val; omega
  · show o + 1 * l.val = o + l.val; omega

/-- A `W` block read whole is itself. -/
theorem whole_w (w : FVec Ideal S256x2000 .f32) :
    View.ld (Val := Elt Ideal) (e' := .f32) w (Rect.unit (s := S256x2000) ![0, 0] S256x2000.size inb_S256x2000_S256x2000_0_0) = w :=
  View.ld_unit_zero (Val := Elt Ideal) (e := .f32) (S := S256x2000) (off := ![0, 0]) (funext fun a => by fin_cases a <;> rfl) _ w

/-- The sum over one chunk of columns, from column `o` of the `X` block. -/
def part (x : FVec Ideal S256x1280 .f32) (w : FVec Ideal S256x2000 .f32) (o : ℕ) (ho : o + 256 ≤ 1280) (p : Fin 256) (q : Fin 2000) :
    EReal := ∑ l : Fin 256, x (ix2 p ⟨o + l.val, by omega⟩) * w (ix2 l q)

/-- A quarter's new entry: the old one plus the five partial sums. -/
theorem quarter_entry (x : FVec Ideal S256x1280 .f32) (w0 w1 w2 w3 w4 r : FVec Ideal S256x2000 .f32) (p : Fin 256) (q : Fin 2000) :
    quarter (F := Ideal) x w0 w1 w2 w3 w4 r (ix2 p q)
      = r (ix2 p q) + ((((part x w0 0 (by omega) p q + part x w1 256 (by omega) p q) + part x w2 512 (by omega) p q)
          + part x w3 768 (by omega) p q) + part x w4 1024 (by omega) p q) := by
  have e : ∀ (o : ℕ) (ho : o + 256 ≤ 1280) (h : ∀ a, (![0, o] : Fin 2 → ℕ) a + S256x256.size a ≤ S256x1280.size a)
      (w : FVec Ideal S256x2000 .f32),
      matmul (F := Ideal) (φ₁ := .f32) (φ₂ := .f32) dot_S256x256_S256x2000_S256x2000_1_0_0_1_n_n none
        (View.ld (Val := Elt Ideal) (e' := .f32) x (Rect.unit (s := S256x1280) ![0, o] S256x256.size h))
        (View.ld (Val := Elt Ideal) (e' := .f32) w (Rect.unit (s := S256x2000) ![0, 0] S256x2000.size inb_S256x2000_S256x2000_0_0))
        (constant S256x2000 .f32 0x00000000#32) (ix2 p q) = part x w o ho p q := by
    intro o ho h w
    rw [whole_w, product_entry]
    exact Finset.sum_congr rfl fun l _ => by rw [chunk_entry x o ho h p l]
  unfold quarter k0_pay4
  dsimp only
  rw [shapeCast_self]
  rw [← e 0 (by omega) inb_S256x1280_S256x256_0_0, ← e 256 (by omega) inb_S256x1280_S256x256_0_256,
    ← e 512 (by omega) inb_S256x1280_S256x256_0_512, ← e 768 (by omega) inb_S256x1280_S256x256_0_768,
    ← e 1024 (by omega) inb_S256x1280_S256x256_0_1024]
  rfl

/-! ## The whole step, at an entry -/

/-- The rows of one quarter of the accumulator, read at an entry. -/
theorem rows_entry (a : FVec Ideal S1024x2000 .f32) (o : ℕ) (ho : o + 256 ≤ 1024)
    (h : ∀ b, (![o, 0] : Fin 2 → ℕ) b + S256x2000.size b ≤ S1024x2000.size b) (p : Fin 256) (q : Fin 2000) :
    View.ld (Val := Elt Ideal) (e' := .f32) a (Rect.unit (s := S1024x2000) ![o, 0] S256x2000.size h) (ix2 p q)
      = a (ix2 ⟨o + p.val, by omega⟩ q) := by
  refine congrArg a (Shape.idx_ext₂ ?_ ?_)
  · show o + 1 * p.val = o + p.val; omega
  · show 0 + 1 * q.val = q.val; omega

/-- The 256 rows of a matrix from row `o` on. -/
def rowsFrom (a : FVec Ideal S1024x2000 .f32) (o : ℕ) (ho : o + 256 ≤ 1024) : FVec Ideal S256x2000 .f32 :=
  fun i => a (ix2 ⟨o + (i 0).val, by have h : (i 0).val < 256 := (i 0).isLt; omega⟩ (i 1))

/-- Where an entry of a row quarter lies in the whole. -/
theorem emb_rows (o : ℕ) (ho : o + 256 ≤ 1024)
    (h : ∀ b, (![o, 0] : Fin 2 → ℕ) b + S256x2000.size b ≤ S1024x2000.size b) (p : Fin 256) (q : Fin 2000) :
    (Rect.unit (s := S1024x2000) ![o, 0] S256x2000.size h).emb (ix2 p q) = ix2 ⟨o + p.val, by omega⟩ q := by
  refine Shape.idx_ext₂ ?_ ?_
  · show o + 1 * p.val = o + p.val; omega
  · show 0 + 1 * q.val = q.val; omega

/-- The store of one row quarter agrees with a matrix `G` on the quarter if the quarter's new entries are `G`'s. -/
theorem piece_eq (w0 w1 w2 w3 w4 : FVec Ideal S256x2000 .f32) (a G : FVec Ideal S1024x2000 .f32) (o : ℕ) (ho : o + 256 ≤ 1024)
    (h : ∀ b, (![o, 0] : Fin 2 → ℕ) b + S256x2000.size b ≤ S1024x2000.size b) (x : FVec Ideal S256x1280 .f32)
    (hq : ∀ (p : Fin 256) (q : Fin 2000), quarter (F := Ideal) x w0 w1 w2 w3 w4 (rowsFrom a o ho) (ix2 p q) = G (ix2 ⟨o + p.val, by omega⟩ q))
    (i : S256x2000.Idx) :
    quarter (F := Ideal) x w0 w1 w2 w3 w4 (View.ld (Val := Elt Ideal) (e' := .f32) a (Rect.unit (s := S1024x2000) ![o, 0] S256x2000.size h)) i
      = G ((Rect.unit (s := S1024x2000) ![o, 0] S256x2000.size h).emb i) := by
  obtain ⟨p, q, rfl⟩ : ∃ (p : Fin 256) (q : Fin 2000), i = ix2 p q := ⟨i 0, i 1, eq_ix2 i⟩
  have e : View.ld (Val := Elt Ideal) (e' := .f32) a (Rect.unit (s := S1024x2000) ![o, 0] S256x2000.size h) = rowsFrom a o ho := by
    funext i
    obtain ⟨p, q, rfl⟩ : ∃ (p : Fin 256) (q : Fin 2000), i = ix2 p q := ⟨i 0, i 1, eq_ix2 i⟩
    exact rows_entry a o ho h p q
  rw [e, emb_rows o ho h p q]
  exact hq p q

/-- If every quarter's new entries are those of one matrix `G`, the accumulator after the step is `G`. -/
theorem accNext_eq (x0 x1 x2 x3 : FVec Ideal S256x1280 .f32) (w0 w1 w2 w3 w4 : FVec Ideal S256x2000 .f32) (a G : FVec Ideal S1024x2000 .f32)
    (h0 : ∀ (p : Fin 256) (q : Fin 2000), quarter (F := Ideal) x0 w0 w1 w2 w3 w4 (rowsFrom a 0 (by omega)) (ix2 p q) = G (ix2 ⟨0 + p.val, by omega⟩ q))
    (h1 : ∀ (p : Fin 256) (q : Fin 2000), quarter (F := Ideal) x1 w0 w1 w2 w3 w4 (rowsFrom a 256 (by omega)) (ix2 p q) = G (ix2 ⟨256 + p.val, by omega⟩ q))
    (h2 : ∀ (p : Fin 256) (q : Fin 2000), quarter (F := Ideal) x2 w0 w1 w2 w3 w4 (rowsFrom a 512 (by omega)) (ix2 p q) = G (ix2 ⟨512 + p.val, by omega⟩ q))
    (h3 : ∀ (p : Fin 256) (q : Fin 2000), quarter (F := Ideal) x3 w0 w1 w2 w3 w4 (rowsFrom a 768 (by omega)) (ix2 p q) = G (ix2 ⟨768 + p.val, by omega⟩ q)) :
    accNext (F := Ideal) x0 x1 x2 x3 w0 w1 w2 w3 w4 a = G := by
  have q0 := piece_eq w0 w1 w2 w3 w4 a G 0 (by omega) inb_S1024x2000_S256x2000_0_0 x0 h0
  have q1 := piece_eq w0 w1 w2 w3 w4 a G 256 (by omega) inb_S1024x2000_S256x2000_256_0 x1 h1
  have q2 := piece_eq w0 w1 w2 w3 w4 a G 512 (by omega) inb_S1024x2000_S256x2000_512_0 x2 h2
  have q3 := piece_eq w0 w1 w2 w3 w4 a G 768 (by omega) inb_S1024x2000_S256x2000_768_0 x3 h3
  funext y
  unfold accNext
  refine View.canon_apply_of_pieces (Val := Elt Ideal) (S := S1024x2000) (e := .f32) G _ ?_ y (quarters_cover (F := Ideal) x0 x1 x2 x3 w0 w1 w2 w3 w4 a y)
  unfold quarters
  refine List.forall_mem_cons.2 ⟨q3, List.forall_mem_cons.2 ⟨q2, List.forall_mem_cons.2 ⟨q1, List.forall_mem_cons.2 ⟨q0, ?_⟩⟩⟩⟩
  intro pc h
  exact absurd h List.not_mem_nil

/-! ## The windows' blocks, as entries of their arrays -/

variable (V : Dev nD → Valuation τ sig (Elt Ideal))

/-- The kernel's left operand, as it finds it. -/
abbrev lhs (c : Dev nD) : FVec Ideal S1024x32000 .f32 := V c main_arg0
/-- Its right operand. -/
abbrev rhs (c : Dev nD) : FVec Ideal S32000x2000 .f32 := V c main_arg1
/-- Its bias row. -/
abbrev bias (c : Dev nD) : FVec Ideal S1x2000 .f32 := V c main_v0

/-- Where the four `X` windows stand: row block `g`, column block the point. -/
theorem x_at : ∀ t : Fin cfg0.N, (win0_0.index t 0 = 0 ∧ win0_0.index t 1 = t.val) ∧ (win0_1.index t 0 = 1 ∧ win0_1.index t 1 = t.val)
    ∧ (win0_2.index t 0 = 2 ∧ win0_2.index t 1 = t.val) ∧ (win0_3.index t 0 = 3 ∧ win0_3.index t 1 = t.val) := by decide +kernel

/-- Where the five `W` windows stand: row block `5 t + j`, the only column block. -/
theorem w_at : ∀ t : Fin cfg0.N, (win0_4.index t 0 = 5 * t.val ∧ win0_4.index t 1 = 0) ∧ (win0_5.index t 0 = 5 * t.val + 1 ∧ win0_5.index t 1 = 0)
    ∧ (win0_6.index t 0 = 5 * t.val + 2 ∧ win0_6.index t 1 = 0) ∧ (win0_7.index t 0 = 5 * t.val + 3 ∧ win0_7.index t 1 = 0)
    ∧ (win0_8.index t 0 = 5 * t.val + 4 ∧ win0_8.index t 1 = 0) := by decide +kernel

/-- Where the bias window and the output window stand: at the start. -/
theorem rest_at : ∀ t : Fin cfg0.N, (win0_9.index t 0 = 0 ∧ win0_9.index t 1 = 0) ∧ (win0_10.index t 0 = 0 ∧ win0_10.index t 1 = 0) := by
  decide +kernel

theorem x0_entry (c : Dev nD) (t : Fin cfg0.N) (p : Fin 256) (l : Fin 1280) :
    (blk V c 0 t : FVec Ideal S256x1280 .f32) (ix2 p l)
      = lhs V c (ix2 ⟨0 + p.val, by omega⟩ ⟨1280 * t.val + l.val, by have := Nat.lt_of_lt_of_eq t.isLt N_0; omega⟩) := by
  unfold blk
  rw [View.read_apply]
  refine congrArg (lhs V c) (Shape.idx_ext₂ ?_ ?_)
  · show win0_0.index t 0 * 256 + 1 * p.val = 0 + p.val; rw [(x_at t).1.1]; omega
  · show win0_0.index t 1 * 1280 + 1 * l.val = 1280 * t.val + l.val; rw [(x_at t).1.2]; omega

theorem x1_entry (c : Dev nD) (t : Fin cfg0.N) (p : Fin 256) (l : Fin 1280) :
    (blk V c 1 t : FVec Ideal S256x1280 .f32) (ix2 p l)
      = lhs V c (ix2 ⟨256 + p.val, by omega⟩ ⟨1280 * t.val + l.val, by have := Nat.lt_of_lt_of_eq t.isLt N_0; omega⟩) := by
  unfold blk
  rw [View.read_apply]
  refine congrArg (lhs V c) (Shape.idx_ext₂ ?_ ?_)
  · show win0_1.index t 0 * 256 + 1 * p.val = 256 + p.val; rw [(x_at t).2.1.1]; omega
  · show win0_1.index t 1 * 1280 + 1 * l.val = 1280 * t.val + l.val; rw [(x_at t).2.1.2]; omega

theorem x2_entry (c : Dev nD) (t : Fin cfg0.N) (p : Fin 256) (l : Fin 1280) :
    (blk V c 2 t : FVec Ideal S256x1280 .f32) (ix2 p l)
      = lhs V c (ix2 ⟨512 + p.val, by omega⟩ ⟨1280 * t.val + l.val, by have := Nat.lt_of_lt_of_eq t.isLt N_0; omega⟩) := by
  unfold blk
  rw [View.read_apply]
  refine congrArg (lhs V c) (Shape.idx_ext₂ ?_ ?_)
  · show win0_2.index t 0 * 256 + 1 * p.val = 512 + p.val; rw [(x_at t).2.2.1.1]; omega
  · show win0_2.index t 1 * 1280 + 1 * l.val = 1280 * t.val + l.val; rw [(x_at t).2.2.1.2]; omega

theorem x3_entry (c : Dev nD) (t : Fin cfg0.N) (p : Fin 256) (l : Fin 1280) :
    (blk V c 3 t : FVec Ideal S256x1280 .f32) (ix2 p l)
      = lhs V c (ix2 ⟨768 + p.val, by omega⟩ ⟨1280 * t.val + l.val, by have := Nat.lt_of_lt_of_eq t.isLt N_0; omega⟩) := by
  unfold blk
  rw [View.read_apply]
  refine congrArg (lhs V c) (Shape.idx_ext₂ ?_ ?_)
  · show win0_3.index t 0 * 256 + 1 * p.val = 768 + p.val; rw [(x_at t).2.2.2.1]; omega
  · show win0_3.index t 1 * 1280 + 1 * l.val = 1280 * t.val + l.val; rw [(x_at t).2.2.2.2]; omega

theorem w0_entry (c : Dev nD) (t : Fin cfg0.N) (l : Fin 256) (q : Fin 2000) :
    (blk V c 4 t : FVec Ideal S256x2000 .f32) (ix2 l q)
      = rhs V c (ix2 ⟨1280 * t.val + (0 + l.val), by have := Nat.lt_of_lt_of_eq t.isLt N_0; omega⟩ q) := by
  unfold blk
  rw [View.read_apply]
  refine congrArg (rhs V c) (Shape.idx_ext₂ ?_ ?_)
  · show win0_4.index t 0 * 256 + 1 * l.val = 1280 * t.val + (0 + l.val); rw [(w_at t).1.1]; omega
  · show win0_4.index t 1 * 2000 + 1 * q.val = q.val; rw [(w_at t).1.2]; omega

theorem w1_entry (c : Dev nD) (t : Fin cfg0.N) (l : Fin 256) (q : Fin 2000) :
    (blk V c 5 t : FVec Ideal S256x2000 .f32) (ix2 l q)
      = rhs V c (ix2 ⟨1280 * t.val + (256 + l.val), by have := Nat.lt_of_lt_of_eq t.isLt N_0; omega⟩ q) := by
  unfold blk
  rw [View.read_apply]
  refine congrArg (rhs V c) (Shape.idx_ext₂ ?_ ?_)
  · show win0_5.index t 0 * 256 + 1 * l.val = 1280 * t.val + (256 + l.val); rw [(w_at t).2.1.1]; omega
  · show win0_5.index t 1 * 2000 + 1 * q.val = q.val; rw [(w_at t).2.1.2]; omega

theorem w2_entry (c : Dev nD) (t : Fin cfg0.N) (l : Fin 256) (q : Fin 2000) :
    (blk V c 6 t : FVec Ideal S256x2000 .f32) (ix2 l q)
      = rhs V c (ix2 ⟨1280 * t.val + (512 + l.val), by have := Nat.lt_of_lt_of_eq t.isLt N_0; omega⟩ q) := by
  unfold blk
  rw [View.read_apply]
  refine congrArg (rhs V c) (Shape.idx_ext₂ ?_ ?_)
  · show win0_6.index t 0 * 256 + 1 * l.val = 1280 * t.val + (512 + l.val); rw [(w_at t).2.2.1.1]; omega
  · show win0_6.index t 1 * 2000 + 1 * q.val = q.val; rw [(w_at t).2.2.1.2]; omega

theorem w3_entry (c : Dev nD) (t : Fin cfg0.N) (l : Fin 256) (q : Fin 2000) :
    (blk V c 7 t : FVec Ideal S256x2000 .f32) (ix2 l q)
      = rhs V c (ix2 ⟨1280 * t.val + (768 + l.val), by have := Nat.lt_of_lt_of_eq t.isLt N_0; omega⟩ q) := by
  unfold blk
  rw [View.read_apply]
  refine congrArg (rhs V c) (Shape.idx_ext₂ ?_ ?_)
  · show win0_7.index t 0 * 256 + 1 * l.val = 1280 * t.val + (768 + l.val); rw [(w_at t).2.2.2.1.1]; omega
  · show win0_7.index t 1 * 2000 + 1 * q.val = q.val; rw [(w_at t).2.2.2.1.2]; omega

theorem w4_entry (c : Dev nD) (t : Fin cfg0.N) (l : Fin 256) (q : Fin 2000) :
    (blk V c 8 t : FVec Ideal S256x2000 .f32) (ix2 l q)
      = rhs V c (ix2 ⟨1280 * t.val + (1024 + l.val), by have := Nat.lt_of_lt_of_eq t.isLt N_0; omega⟩ q) := by
  unfold blk
  rw [View.read_apply]
  refine congrArg (rhs V c) (Shape.idx_ext₂ ?_ ?_)
  · show win0_8.index t 0 * 256 + 1 * l.val = 1280 * t.val + (1024 + l.val); rw [(w_at t).2.2.2.2.1]; omega
  · show win0_8.index t 1 * 2000 + 1 * q.val = q.val; rw [(w_at t).2.2.2.2.2]; omega

/-- The bias window's block is the bias row. -/
theorem bias_block (c : Dev nD) (t : Fin cfg0.N) : (blk V c 9 t : FVec Ideal S1x2000 .f32) = bias V c := by
  funext i
  unfold blk
  rw [View.read_apply]
  refine congrArg (bias V c) (Shape.idx_ext₂ ?_ ?_)
  · show win0_9.index t 0 * 1 + 1 * (i 0).val = (i 0).val; rw [(rest_at t).1.1]; omega
  · show win0_9.index t 1 * 2000 + 1 * (i 1).val = (i 1).val; rw [(rest_at t).1.2]; omega

/-! ## The accumulator is the inner product so far -/

/-- The `k`-th term of the inner product of row `r` of `X` with column `q` of `W`. -/
def term (c : Dev nD) (r : Fin 1024) (q : Fin 2000) (k : ℕ) : EReal :=
  if h : k < 32000 then (lhs V c (ix2 r ⟨k, h⟩) * rhs V c (ix2 ⟨k, h⟩ q) : EReal) else 0

/-- The inner products' first `n` terms, added up. -/
def upTo (c : Dev nD) (n : ℕ) : FVec Ideal S1024x2000 .f32 := fun i => ∑ k ∈ Finset.range n, term V c (i 0) (i 1) k

/-- One chunk's partial sum is 256 consecutive terms. -/
theorem part_eq (c : Dev nD) (t : Fin cfg0.N) (x : FVec Ideal S256x1280 .f32) (w : FVec Ideal S256x2000 .f32) (o : ℕ) (ho : o + 256 ≤ 1280)
    (p : Fin 256) (r : Fin 1024) (q : Fin 2000)
    (hx : ∀ l : Fin 1280, x (ix2 p l) = lhs V c (ix2 r ⟨1280 * t.val + l.val, by have := Nat.lt_of_lt_of_eq t.isLt N_0; omega⟩))
    (hw : ∀ l : Fin 256, w (ix2 l q) = rhs V c (ix2 ⟨1280 * t.val + (o + l.val), by have := Nat.lt_of_lt_of_eq t.isLt N_0; omega⟩ q)) :
    part x w o ho p q = ∑ l ∈ Finset.range 256, term V c r q (1280 * t.val + (o + l)) := by
  rw [← Fin.sum_univ_eq_sum_range (fun l => term V c r q (1280 * t.val + (o + l))) 256]
  refine Finset.sum_congr rfl fun l _ => ?_
  have hk : 1280 * t.val + (o + l.val) < 32000 := by have := Nat.lt_of_lt_of_eq t.isLt N_0; omega
  unfold term
  rw [dif_pos hk, hx, hw]

/-- A sum of 1280 further terms, in five runs of 256. -/
theorem five_runs (f : ℕ → EReal) (n : ℕ) :
    (∑ k ∈ Finset.range n, f k) + ((((∑ l ∈ Finset.range 256, f (n + (0 + l)) + ∑ l ∈ Finset.range 256, f (n + (256 + l)))
        + ∑ l ∈ Finset.range 256, f (n + (512 + l))) + ∑ l ∈ Finset.range 256, f (n + (768 + l))) + ∑ l ∈ Finset.range 256, f (n + (1024 + l)))
      = ∑ k ∈ Finset.range (n + 1280), f k := by
  rw [Finset.sum_range_add f n 1280, Finset.sum_range_add (fun x => f (n + x)) 1024 256, Finset.sum_range_add (fun x => f (n + x)) 768 256,
    Finset.sum_range_add (fun x => f (n + x)) 512 256, Finset.sum_range_add (fun x => f (n + x)) 256 256]
  simp only [Nat.zero_add]

/-- One point adds its 1280 terms. -/
theorem step_eq (c : Dev nD) (t : Fin cfg0.N) (a : FVec Ideal S1024x2000 .f32) (ha : a = upTo V c (1280 * t.val)) :
    stepAt V c t a = upTo V c (1280 * (t.val + 1)) := by
  have main : ∀ (o : ℕ) (ho : o + 256 ≤ 1024) (x : FVec Ideal S256x1280 .f32)
      (hx : ∀ (p : Fin 256) (l : Fin 1280), x (ix2 p l)
        = lhs V c (ix2 ⟨o + p.val, by omega⟩ ⟨1280 * t.val + l.val, by have := Nat.lt_of_lt_of_eq t.isLt N_0; omega⟩))
      (p : Fin 256) (q : Fin 2000),
      quarter (F := Ideal) x (blk V c 4 t) (blk V c 5 t) (blk V c 6 t) (blk V c 7 t) (blk V c 8 t) (rowsFrom a o ho) (ix2 p q)
        = upTo V c (1280 * (t.val + 1)) (ix2 ⟨o + p.val, by omega⟩ q) := by
    intro o ho x hx p q
    rw [quarter_entry, part_eq V c t x _ 0 (by omega) p ⟨o + p.val, by omega⟩ q (hx p) (fun l => w0_entry V c t l q),
      part_eq V c t x _ 256 (by omega) p ⟨o + p.val, by omega⟩ q (hx p) (fun l => w1_entry V c t l q),
      part_eq V c t x _ 512 (by omega) p ⟨o + p.val, by omega⟩ q (hx p) (fun l => w2_entry V c t l q),
      part_eq V c t x _ 768 (by omega) p ⟨o + p.val, by omega⟩ q (hx p) (fun l => w3_entry V c t l q),
      part_eq V c t x _ 1024 (by omega) p ⟨o + p.val, by omega⟩ q (hx p) (fun l => w4_entry V c t l q), ha]
    exact five_runs (term V c ⟨o + p.val, by omega⟩ q) (1280 * t.val)
  exact accNext_eq _ _ _ _ _ _ _ _ _ a _ (main 0 (by omega) _ (x0_entry V c t)) (main 256 (by omega) _ (x1_entry V c t))
    (main 512 (by omega) _ (x2_entry V c t)) (main 768 (by omega) _ (x3_entry V c t))

/-- The accumulator starts at no terms. -/
theorem zero_eq (c : Dev nD) : k0_pay3 (F := Ideal) = upTo V c 0 := by
  unfold k0_pay3
  dsimp only
  rw [shapeCast_self]
  funext i
  show Ideal.ofBits .f32 0x00000000#32 = _
  rw [Ideal.ofBits_zero_f32]
  unfold upTo
  rw [Finset.sum_range_zero]

/-- After point `n` the accumulator holds the first `1280 (n + 1)` terms of every inner product. -/
theorem accAfter_eq (c : Dev nD) : ∀ (n : ℕ) (h : n < cfg0.N), accAfter V c n h = upTo V c (1280 * (n + 1))
  | 0, h => step_eq V c ⟨0, h⟩ _ (zero_eq V c)
  | n + 1, h => step_eq V c ⟨n + 1, h⟩ _ (accAfter_eq c n (Nat.lt_of_succ_lt h))

/-! ## What the call leaves -/

/-- The kernel's result: the rectified affine image of `X`. -/
def hidden (c : Dev nD) : FVec Ideal S1024x2000 .f32 := rectified (F := Ideal) (upTo V c 32000) (bias V c)

/-- Its entries. -/
theorem hidden_entry (c : Dev nD) (r : Fin 1024) (q : Fin 2000) :
    hidden V c (ix2 r q) = max (∑ k : Fin 32000, lhs V c (ix2 r k) * rhs V c (ix2 k q) + bias V c (ix2 (0 : Fin 1) q)) (0 : EReal) := by
  have hs : upTo V c 32000 (ix2 r q) = ∑ k : Fin 32000, lhs V c (ix2 r k) * rhs V c (ix2 k q) := by
    show (∑ k ∈ Finset.range 32000, term V c r q k : EReal) = _
    rw [← Fin.sum_univ_eq_sum_range (term V c r q) 32000]
    exact Finset.sum_congr rfl fun k _ => by unfold term; rw [dif_pos k.isLt]
  unfold hidden rectified k0_pay2
  dsimp only
  rw [shapeCast_self, View.ld_unit_zero (Val := Elt Ideal) (e := .f32) (S := S1x2000) (off := ![0, 0]) (funext fun a => by fin_cases a <;> rfl)]
  show max (upTo V c 32000 (ix2 r q) + broadcastTo S1024x2000 (bias V c) broadcasts_S1x2000_S1024x2000 (ix2 r q)) (Ideal.ofBits .f32 0x00000000#32) = _
  rw [Ideal.ofBits_zero_f32, hs, broadcastTo_apply (bias V c) broadcasts_S1x2000_S1024x2000 (ix2 r q) (ix2 (0 : Fin 1) q)
    (fun a => match a with | ⟨0, _⟩ => rfl | ⟨1, _⟩ => rfl)]

/-- The one write-back, at the last point, writes it. -/
theorem flushed_eq (c : Dev nD) (t : Fin cfg0.N) (hf : (cfg0.win 10).flush t = true) :
    (dat V c).flushed 10 t = ((cfg0.win 10).blk t).view.read (Elt Ideal) (hidden V c) := by
  have h24 : t.val = 24 := by
    by_contra hne
    rw [out_kept t hne] at hf
    exact absurd hf (by decide)
  show (cfg0.win 10).cut (grid0.coords t) ((dat V c).after 10 t) = _
  rw [after_10]
  unfold result
  rw [accAfter_eq, bias_block, h24]
  have hz : (fun a => win0_10.index t a * main_v6.ty.shape.size a) = fun _ => 0 := by
    funext a
    match a with
    | ⟨0, _⟩ => show win0_10.index t 0 * _ = 0; rw [(rest_at t).2.1, Nat.zero_mul]
    | ⟨1, _⟩ => show win0_10.index t 1 * _ = 0; rw [(rest_at t).2.2, Nat.zero_mul]
  exact (Memref.read_access_unit_zero (Elt Ideal) main_v6 hz (fun a => by rw [congrFun hz a]; simp) (hidden V c)).symm

/-- So the output array ends holding it. -/
theorem final_o (c : Dev nD) : (dat V c).arrAt 10 cfg0.N = hidden V c :=
  (dat V c).arrAt_eq_of_cover 10 (hidden V c) (flushed_eq V c) fun i =>
    ⟨⟨24, by rw [show cfg0.N = 25 from N_0]; decide⟩, (by decide +kernel : ∀ t : Fin cfg0.N, t.val = 24 → (cfg0.win 10).flush t = true) _ rfl, by
      generalize (⟨24, by rw [show cfg0.N = 25 from N_0]; decide⟩ : Fin cfg0.N) = t
      show i ∈ ((View.whole main_v6).slice (win0_10.rect t)).set
      rw [View.set_slice_whole, Rect.mem_set_unit]
      intro a
      have h0 : (i 0 : Nat) < 1024 := (i 0).isLt
      have h1 : (i 1 : Nat) < 2000 := (i 1).isLt
      match a with
      | ⟨0, _⟩ => show win0_10.index t 0 * 1024 ≤ (i 0 : Nat) ∧ (i 0 : Nat) < win0_10.index t 0 * 1024 + 1024
                  rw [(rest_at t).2.1]; omega
      | ⟨1, _⟩ => show win0_10.index t 1 * 2000 ≤ (i 1 : Nat) ∧ (i 1 : Nat) < win0_10.index t 1 * 2000 + 2000
                  rw [(rest_at t).2.2]; omega⟩

end Cert.KernelIdeal.Matmul
-- ==== Proof.Network.lean ====
/-
  The network as plain mathematics over the extended reals: two dense layers, then two heads that look at one half of
  the second layer's columns each, their outputs side by side. Both programs are shown to compute `network`.
-/
module

public import Idealize.ShloMosaic.Lib.Pipeline.Value
public import Idealize.ShloMosaic.Lib.ValueIdx
public import Idealize.ShloMosaic.Lib.IdealHost

@[expose] public section

noncomputable section

namespace Cert.Network

open Idealize.ShloMosaic Idealize.ShloMosaic.ValueIdx

/-- A matrix of extended reals. -/
abbrev Mat (m n : ℕ) : Type := FVec Ideal ⟨2, ![m, n]⟩ .f32
/-- A vector of extended reals. -/
abbrev Row (n : ℕ) : Type := FVec Ideal ⟨1, ![n]⟩ .f32

/-- The affine image of a matrix: row `r` of `x` times column `q` of `w`, plus entry `q` of `b`. -/
def affine {m k n : ℕ} (x : Mat m k) (w : Mat k n) (b : Row n) (r : Fin m) (q : Fin n) : EReal :=
  ∑ l : Fin k, x (ix2 r l) * w (ix2 l q) + b (ix1 q)

/-- The first layer: affine, then rectified. -/
def layer1 (x : Mat 1024 32000) (w : Mat 32000 2000) (b : Row 2000) : Mat 1024 2000 := fun i => max (affine x w b (i 0) (i 1)) 0

/-- The second layer: affine. -/
def layer2 (h : Mat 1024 2000) (w : Mat 2000 1000) (b : Row 1000) : Mat 1024 1000 := fun i => affine h w b (i 0) (i 1)

/-- The class head's input: the first 500 columns rectified, zero in the others. -/
def classIn (g : Mat 1024 1000) : Mat 1024 1000 := fun i => max (if (i 1).val < 500 then g i else 0) 0

/-- The regression head's input: the last 500 columns, zero in the others, scaled and shifted by column, through `tanh`. -/
def regIn (g : Mat 1024 1000) (sw sb : Row 1000) : Mat 1024 1000 :=
  fun i => Ideal.tanh ((if 500 ≤ (i 1).val then g i else 0) * sw (ix1 (i 1)) + sb (ix1 (i 1)))

/-- The two heads' outputs side by side: the 2000 class columns, then the 500 regression columns. -/
def outputs (g : Mat 1024 1000) (wc : Mat 1000 2000) (bc : Row 2000) (sw sb : Row 1000) (wr : Mat 1000 500) (br : Row 500) :
    Mat 1024 2500 := fun i =>
  if h : (i 1).val < 2000 then affine (classIn g) wc bc (i 0) ⟨(i 1).val, h⟩
  else affine (regIn g sw sb) wr br (i 0) ⟨(i 1).val - 2000, by have h1 : (i 1).val < 2500 := (i 1).isLt; omega⟩

/-- The whole network. -/
def network (x : Mat 1024 32000) (w : Mat 32000 2000) (b : Row 2000) (w1 : Mat 2000 1000) (b1 : Row 1000) (wc : Mat 1000 2000) (bc : Row 2000)
    (sw sb : Row 1000) (wr : Mat 1000 500) (br : Row 500) : Mat 1024 2500 :=
  outputs (layer2 (layer1 x w b) w1 b1) wc bc sw sb wr br

end Cert.Network
-- ==== Proof.HeadsValue.lean ====
/-
  What the second kernel leaves in its output array, over the extended reals: the class columns and the regression
  columns of the network's outputs, from the first layer it is given.
-/
module

public import proofs.«01_k».proof.Proof.HeadsRegionIdeal
public import proofs.«01_k».proof.Proof.Network
public import Idealize.ShloMosaic.Lib.MatmulPlain
public import Idealize.ShloMosaic.Lib.WordCmp

@[expose] public section

set_option maxRecDepth 16384

noncomputable section

namespace Cert.KernelIdeal.Heads

open Cert.KernelIdeal Cert.KernelIdeal.Gen Cert.Network
open Idealize.ShloMosaic Idealize.ShloMosaic.TcCoe Idealize.ShloMosaic.Tactic Idealize.ShloMosaic.ValueIdx
open Idealize.ShloMosaic.Pipeline (Dat Cfg Window)

/-! ## Products, bias rows and column halves, at an entry -/

/-- A product into a zero accumulator, read at an entry. -/
theorem product_entry {m k n : ℕ} (x : Mat m k) (w : Mat k n) (r : Fin m) (q : Fin n) :
    matmul (F := Ideal) (φ₁ := .f32) (φ₂ := .f32) (DotDims.plain m k n) none x w (constant ⟨2, ![m, n]⟩ .f32 0x00000000#32) (ix2 r q)
      = ∑ l : Fin k, x (ix2 r l) * w (ix2 l q) := by
  refine (Ideal.matmul_plain_apply (φ₁ := .f32) (φ₂ := .f32) none x w (constant ⟨2, ![m, n]⟩ .f32 0x00000000#32) r q).trans ?_
  show Ideal.ofBits .f32 0x00000000#32 + _ = _
  rw [Ideal.ofBits_zero_f32, zero_add]

/-- A one-row matrix laid along every row, read at an entry. -/
theorem row_entry {m n : ℕ} (hn : n ≠ 1) (b : Mat 1 n) (h : (⟨2, ![1, n]⟩ : Shape).Broadcasts ⟨2, ![m, n]⟩) (r : Fin m) (q : Fin n) :
    broadcastTo ⟨2, ![m, n]⟩ b h (ix2 r q) = b (ix2 (0 : Fin 1) q) :=
  broadcastTo_apply b h (ix2 r q) (ix2 (0 : Fin 1) q) (fun a => match a with
    | ⟨0, _⟩ => rfl
    | ⟨1, _⟩ => by show q.val = if n = 1 then 0 else q.val; rw [if_neg hn])

/-- An affine layer whose bias comes as a one-row matrix, read at an entry. -/
theorem affine_entry {m k n : ℕ} (hn : n ≠ 1) (x : Mat m k) (w : Mat k n) (b : Mat 1 n) (β : Row n) (hβ : ∀ q, b (ix2 (0 : Fin 1) q) = β (ix1 q))
    (h : (⟨2, ![1, n]⟩ : Shape).Broadcasts ⟨2, ![m, n]⟩) (r : Fin m) (q : Fin n) :
    addf (matmul (F := Ideal) (φ₁ := .f32) (φ₂ := .f32) (DotDims.plain m k n) none x w (constant ⟨2, ![m, n]⟩ .f32 0x00000000#32))
      (broadcastTo ⟨2, ![m, n]⟩ b h) (ix2 r q) = affine x w β r q := by
  show (matmul (F := Ideal) (φ₁ := .f32) (φ₂ := .f32) (DotDims.plain m k n) none x w (constant ⟨2, ![m, n]⟩ .f32 0x00000000#32) (ix2 r q) : EReal)
    + broadcastTo ⟨2, ![m, n]⟩ b h (ix2 r q) = _
  rw [product_entry, row_entry hn, hβ]
  rfl

/-- A choice between a matrix and zero by "the column is below 500". -/
theorem below_entry (g z : Mat 1024 1000) (h : S1024x1000.Iotas .tc 32 [1]) (i : S1024x1000.Idx) :
    select (cmpi .slt (iota .tc S1024x1000 32 [1] h) (broadcast S1024x1000 500#32)) g z i = if (i 1).val < 500 then g i else z i := by
  have h1 : (i 1).val < 1000 := (i 1).isLt
  show Scalar.select (IntOp.cmpi .slt (iota .tc S1024x1000 32 [1] h i) 500#32) (g i) (z i) = _
  rw [iota_single_apply, show (500#32 : BitVec 32) = BitVec.ofNat 32 500 from rfl, WordCmp.cmpi_slt_ofNat (by omega) (by omega)]
  by_cases hc : (i 1).val < 500
  · rw [if_pos hc, decide_eq_true hc]; rfl
  · rw [if_neg hc, decide_eq_false hc]; rfl

/-- A choice between a matrix and zero by "the column is not below 500". -/
theorem above_entry (g z : Mat 1024 1000) (h : S1024x1000.Iotas .tc 32 [1]) (i : S1024x1000.Idx) :
    select (cmpi .sge (iota .tc S1024x1000 32 [1] h) (broadcast S1024x1000 500#32)) g z i = if 500 ≤ (i 1).val then g i else z i := by
  have h1 : (i 1).val < 1000 := (i 1).isLt
  show Scalar.select (IntOp.cmpi .sge (iota .tc S1024x1000 32 [1] h i) 500#32) (g i) (z i) = _
  rw [iota_single_apply, show (500#32 : BitVec 32) = BitVec.ofNat 32 500 from rfl, WordCmp.cmpi_sge_ofNat (by omega) (by omega)]
  by_cases hc : 500 ≤ (i 1).val
  · rw [if_pos hc, decide_eq_true hc]; rfl
  · rw [if_neg hc, decide_eq_false hc]; rfl

/-! ## The payloads -/

/-- The second layer. -/
theorem second_eq (x0 : Mat 1024 2000) (x1 : Mat 2000 1000) (x2 : Mat 1 1000) (β : Row 1000) (hβ : ∀ q, x2 (ix2 (0 : Fin 1) q) = β (ix1 q)) :
    k1_pay2 (F := Ideal) x0 x1 x2 = layer2 x0 x1 β := by
  funext i
  obtain ⟨r, q, rfl⟩ : ∃ (r : Fin 1024) (q : Fin 1000), i = ix2 r q := ⟨i 0, i 1, eq_ix2 i⟩
  unfold k1_pay2
  rw [shapeCast_self, shapeCast_self]
  exact affine_entry (by decide) x0 x1 x2 β hβ broadcasts_S1x1000_S1024x1000 r q

/-- The class columns. -/
theorem class_entry (x0 : Mat 1024 2000) (x1 : Mat 2000 1000) (x2 : Mat 1 1000) (x3 : Mat 1000 2000) (x4 : Mat 1 2000) (β : Row 1000) (βc : Row 2000)
    (hβ : ∀ q, x2 (ix2 (0 : Fin 1) q) = β (ix1 q)) (hc : ∀ q, x4 (ix2 (0 : Fin 1) q) = βc (ix1 q)) (r : Fin 1024) (q : Fin 2000) :
    k1_pay3 (F := Ideal) x0 x1 x2 x3 x4 (ix2 r q) = affine (classIn (layer2 x0 x1 β)) x3 βc r q := by
  unfold k1_pay3
  dsimp only
  rw [second_eq x0 x1 x2 β hβ, shapeCast_self]
  have e : maximumf (F := Ideal) (φ := .f32) (select (cmpi .slt (iota .tc S1024x1000 32 [1] iota_S1024x1000_d1_w32) (broadcast S1024x1000 500#32)) (layer2 x0 x1 β)
      (broadcast S1024x1000 (Scalar.ofBits .f32 0x00000000#32))) (broadcast S1024x1000 (Scalar.ofBits .f32 0x00000000#32)) = classIn (layer2 x0 x1 β) := by
    funext i
    show max (select _ _ _ i) (Ideal.ofBits .f32 0x00000000#32) = _
    rw [below_entry, Ideal.ofBits_zero_f32]
    show max (if _ then _ else Ideal.ofBits .f32 0x00000000#32) _ = _
    rw [Ideal.ofBits_zero_f32]
    rfl
  rw [e]
  exact affine_entry (by decide) (classIn (layer2 x0 x1 β)) x3 x4 βc hc broadcasts_S1x2000_S1024x2000 r q

/-- The regression columns. -/
theorem reg_entry (x0 : Mat 1024 2000) (x1 : Mat 2000 1000) (x2 x5 x6 : Mat 1 1000) (x7 : Mat 1000 500) (x8 : Mat 1 500) (β σw σb : Row 1000) (βr : Row 500)
    (hβ : ∀ q, x2 (ix2 (0 : Fin 1) q) = β (ix1 q)) (hw : ∀ q, x5 (ix2 (0 : Fin 1) q) = σw (ix1 q)) (hb : ∀ q, x6 (ix2 (0 : Fin 1) q) = σb (ix1 q))
    (hr : ∀ q, x8 (ix2 (0 : Fin 1) q) = βr (ix1 q)) (r : Fin 1024) (q : Fin 500) :
    k1_pay1 (F := Ideal) (k1_pay4 x0 x1 x2 x5 x6 x7) x8 (ix2 r q) = affine (regIn (layer2 x0 x1 β) σw σb) x7 βr r q := by
  unfold k1_pay1 k1_pay4
  dsimp only
  rw [second_eq x0 x1 x2 β hβ, shapeCast_self, shapeCast_self, shapeCast_self]
  have e : tanh (F := Ideal) (φ := .f32) (addf (mulf (select (cmpi .sge (iota .tc S1024x1000 32 [1] iota_S1024x1000_d1_w32) (broadcast S1024x1000 500#32)) (layer2 x0 x1 β)
      (broadcast S1024x1000 (Scalar.ofBits .f32 0x00000000#32))) (broadcastTo S1024x1000 x5 broadcasts_S1x1000_S1024x1000))
      (broadcastTo S1024x1000 x6 broadcasts_S1x1000_S1024x1000)) = regIn (layer2 x0 x1 β) σw σb := by
    funext i
    obtain ⟨r, q, rfl⟩ : ∃ (r : Fin 1024) (q : Fin 1000), i = ix2 r q := ⟨i 0, i 1, eq_ix2 i⟩
    show Ideal.tanh (select _ _ _ (ix2 r q) * broadcastTo S1024x1000 x5 broadcasts_S1x1000_S1024x1000 (ix2 r q)
      + broadcastTo S1024x1000 x6 broadcasts_S1x1000_S1024x1000 (ix2 r q)) = _
    rw [above_entry, row_entry (by decide) x5 broadcasts_S1x1000_S1024x1000, row_entry (by decide) x6 broadcasts_S1x1000_S1024x1000, hw, hb]
    show Ideal.tanh ((if _ then _ else Ideal.ofBits .f32 0x00000000#32) * _ + _) = _
    rw [Ideal.ofBits_zero_f32]
    rfl
  rw [e]
  exact affine_entry (by decide) (regIn (layer2 x0 x1 β) σw σb) x7 x8 βr hr broadcasts_S1x500_S1024x500 r q

/-! ## The output block -/

/-- A whole load reads the buffer's contents. -/
theorem whole_load {m n : ℕ} (x : Mat m n) (h : ∀ a, (![0, 0] : Fin 2 → ℕ) a + (⟨2, ![m, n]⟩ : Shape).size a ≤ (⟨2, ![m, n]⟩ : Shape).size a) :
    View.ld (Val := Elt Ideal) (e' := .f32) x (Rect.unit (s := ⟨2, ![m, n]⟩) ![0, 0] (⟨2, ![m, n]⟩ : Shape).size h) = x :=
  View.ld_unit_zero (Val := Elt Ideal) (e := .f32) (S := ⟨2, ![m, n]⟩) (off := ![0, 0]) (funext fun a => by fin_cases a <;> rfl) h x

/-- The output block: the class columns and the regression columns side by side. -/
theorem heads_eq (x0 : Mat 1024 2000) (x1 : Mat 2000 1000) (x2 : Mat 1 1000) (x3 : Mat 1000 2000) (x4 : Mat 1 2000) (x5 x6 : Mat 1 1000)
    (x7 : Mat 1000 500) (x8 : Mat 1 500) (β : Row 1000) (βc : Row 2000) (σw σb : Row 1000) (βr : Row 500)
    (hβ : ∀ q, x2 (ix2 (0 : Fin 1) q) = β (ix1 q)) (hc : ∀ q, x4 (ix2 (0 : Fin 1) q) = βc (ix1 q))
    (hw : ∀ q, x5 (ix2 (0 : Fin 1) q) = σw (ix1 q)) (hb : ∀ q, x6 (ix2 (0 : Fin 1) q) = σb (ix1 q))
    (hr : ∀ q, x8 (ix2 (0 : Fin 1) q) = βr (ix1 q)) :
    heads (F := Ideal) x0 x1 x2 x3 x4 x5 x6 x7 x8 = outputs (layer2 x0 x1 β) x3 βc σw σb x7 βr := by
  have left : ∀ i : S1024x2000.Idx, classHead (F := Ideal) x0 x1 x2 x3 x4 x5 x6 x7 x8 i
      = outputs (layer2 x0 x1 β) x3 βc σw σb x7 βr ((Rect.unit (s := S1024x2500) ![0, 0] S1024x2000.size inb_S1024x2500_S1024x2000_0_0).emb i) := by
    intro i
    obtain ⟨r, q, rfl⟩ : ∃ (r : Fin 1024) (q : Fin 2000), i = ix2 r q := ⟨i 0, i 1, eq_ix2 i⟩
    have e : (Rect.unit (s := S1024x2500) ![0, 0] S1024x2000.size inb_S1024x2500_S1024x2000_0_0).emb (ix2 r q) = ix2 r ⟨q.val, by omega⟩ :=
      Shape.idx_ext₂ (by show 0 + 1 * r.val = r.val; omega) (by show 0 + 1 * q.val = q.val; omega)
    rw [e]
    unfold classHead
    rw [whole_load x0, whole_load x1, whole_load x2, whole_load x3, whole_load x4, class_entry x0 x1 x2 x3 x4 β βc hβ hc r q]
    unfold outputs
    rw [dif_pos (show ((ix2 r (⟨q.val, by omega⟩ : Fin 2500) : (⟨2, ![1024, 2500]⟩ : Shape).Idx) 1).val < 2000 from q.isLt)]
  have right : ∀ i : S1024x500.Idx, regHead (F := Ideal) x0 x1 x2 x3 x4 x5 x6 x7 x8 i
      = outputs (layer2 x0 x1 β) x3 βc σw σb x7 βr ((Rect.unit (s := S1024x2500) ![0, 2000] S1024x500.size inb_S1024x2500_S1024x500_0_2000).emb i) := by
    intro i
    obtain ⟨r, q, rfl⟩ : ∃ (r : Fin 1024) (q : Fin 500), i = ix2 r q := ⟨i 0, i 1, eq_ix2 i⟩
    have e : (Rect.unit (s := S1024x2500) ![0, 2000] S1024x500.size inb_S1024x2500_S1024x500_0_2000).emb (ix2 r q) = ix2 r ⟨2000 + q.val, by omega⟩ :=
      Shape.idx_ext₂ (by show 0 + 1 * r.val = r.val; omega) (by show 2000 + 1 * q.val = 2000 + q.val; omega)
    rw [e]
    unfold regHead
    rw [whole_load x0, whole_load x1, whole_load x2, whole_load x5, whole_load x6, whole_load x7, whole_load x8,
      reg_entry x0 x1 x2 x5 x6 x7 x8 β σw σb βr hβ hw hb hr r q]
    unfold outputs
    rw [dif_neg (show ¬((ix2 r (⟨2000 + q.val, by omega⟩ : Fin 2500) : (⟨2, ![1024, 2500]⟩ : Shape).Idx) 1).val < 2000 from by
      show ¬(2000 + q.val < 2000); omega)]
    exact congrArg (affine (regIn (layer2 x0 x1 β) σw σb) x7 βr r) (Fin.ext (by show q.val = 2000 + q.val - 2000; omega))
  funext y
  unfold heads
  refine View.canon_apply_of_pieces (Val := Elt Ideal) (S := S1024x2500) (e := .f32) (outputs (layer2 x0 x1 β) x3 βc σw σb x7 βr) _ ?_ y
    (halves_cover (F := Ideal) x0 x1 x2 x3 x4 x5 x6 x7 x8 y)
  unfold halves
  refine List.forall_mem_cons.2 ⟨right, List.forall_mem_cons.2 ⟨left, ?_⟩⟩
  intro pc h
  exact absurd h List.not_mem_nil

/-! ## The windows' blocks are their arrays -/

variable (V : Dev nD → Valuation τ sig (Elt Ideal))

/-- Every window stands at the start of its array. -/
theorem at_start : ∀ t : Fin cfg1.N, (win1_0.index t 0 = 0 ∧ win1_0.index t 1 = 0) ∧ (win1_1.index t 0 = 0 ∧ win1_1.index t 1 = 0) ∧ (win1_2.index t 0 = 0 ∧ win1_2.index t 1 = 0) ∧ (win1_3.index t 0 = 0 ∧ win1_3.index t 1 = 0) ∧ (win1_4.index t 0 = 0 ∧ win1_4.index t 1 = 0) ∧ (win1_5.index t 0 = 0 ∧ win1_5.index t 1 = 0) ∧ (win1_6.index t 0 = 0 ∧ win1_6.index t 1 = 0) ∧ (win1_7.index t 0 = 0 ∧ win1_7.index t 1 = 0) ∧ (win1_8.index t 0 = 0 ∧ win1_8.index t 1 = 0) ∧ (win1_9.index t 0 = 0 ∧ win1_9.index t 1 = 0) := by
  decide +kernel

theorem block_0 (c : Dev nD) (t : Fin cfg1.N) : (blk V c 0 t : Mat 1024 2000) = V c main_v6 := by
  funext i
  unfold blk
  rw [View.read_apply]
  refine congrArg (V c main_v6) (Shape.idx_ext₂ ?_ ?_)
  · show win1_0.index t 0 * 1024 + 1 * (i 0).val = (i 0).val; rw [(at_start t).1.1]; omega
  · show win1_0.index t 1 * 2000 + 1 * (i 1).val = (i 1).val; rw [(at_start t).1.2]; omega

theorem block_1 (c : Dev nD) (t : Fin cfg1.N) : (blk V c 1 t : Mat 2000 1000) = V c main_arg3 := by
  funext i
  unfold blk
  rw [View.read_apply]
  refine congrArg (V c main_arg3) (Shape.idx_ext₂ ?_ ?_)
  · show win1_1.index t 0 * 2000 + 1 * (i 0).val = (i 0).val; rw [(at_start t).2.1.1]; omega
  · show win1_1.index t 1 * 1000 + 1 * (i 1).val = (i 1).val; rw [(at_start t).2.1.2]; omega

theorem block_2 (c : Dev nD) (t : Fin cfg1.N) : (blk V c 2 t : Mat 1 1000) = V c main_v1 := by
  funext i
  unfold blk
  rw [View.read_apply]
  refine congrArg (V c main_v1) (Shape.idx_ext₂ ?_ ?_)
  · show win1_2.index t 0 * 1 + 1 * (i 0).val = (i 0).val; rw [(at_start t).2.2.1.1]; omega
  · show win1_2.index t 1 * 1000 + 1 * (i 1).val = (i 1).val; rw [(at_start t).2.2.1.2]; omega

theorem block_3 (c : Dev nD) (t : Fin cfg1.N) : (blk V c 3 t : Mat 1000 2000) = V c main_arg5 := by
  funext i
  unfold blk
  rw [View.read_apply]
  refine congrArg (V c main_arg5) (Shape.idx_ext₂ ?_ ?_)
  · show win1_3.index t 0 * 1000 + 1 * (i 0).val = (i 0).val; rw [(at_start t).2.2.2.1.1]; omega
  · show win1_3.index t 1 * 2000 + 1 * (i 1).val = (i 1).val; rw [(at_start t).2.2.2.1.2]; omega

theorem block_4 (c : Dev nD) (t : Fin cfg1.N) : (blk V c 4 t : Mat 1 2000) = V c main_v2 := by
  funext i
  unfold blk
  rw [View.read_apply]
  refine congrArg (V c main_v2) (Shape.idx_ext₂ ?_ ?_)
  · show win1_4.index t 0 * 1 + 1 * (i 0).val = (i 0).val; rw [(at_start t).2.2.2.2.1.1]; omega
  · show win1_4.index t 1 * 2000 + 1 * (i 1).val = (i 1).val; rw [(at_start t).2.2.2.2.1.2]; omega

theorem block_5 (c : Dev nD) (t : Fin cfg1.N) : (blk V c 5 t : Mat 1 1000) = V c main_v3 := by
  funext i
  unfold blk
  rw [View.read_apply]
  refine congrArg (V c main_v3) (Shape.idx_ext₂ ?_ ?_)
  · show win1_5.index t 0 * 1 + 1 * (i 0).val = (i 0).val; rw [(at_start t).2.2.2.2.2.1.1]; omega
  · show win1_5.index t 1 * 1000 + 1 * (i 1).val = (i 1).val; rw [(at_start t).2.2.2.2.2.1.2]; omega

theorem block_6 (c : Dev nD) (t : Fin cfg1.N) : (blk V c 6 t : Mat 1 1000) = V c main_v4 := by
  funext i
  unfold blk
  rw [View.read_apply]
  refine congrArg (V c main_v4) (Shape.idx_ext₂ ?_ ?_)
  · show win1_6.index t 0 * 1 + 1 * (i 0).val = (i 0).val; rw [(at_start t).2.2.2.2.2.2.1.1]; omega
  · show win1_6.index t 1 * 1000 + 1 * (i 1).val = (i 1).val; rw [(at_start t).2.2.2.2.2.2.1.2]; omega

theorem block_7 (c : Dev nD) (t : Fin cfg1.N) : (blk V c 7 t : Mat 1000 500) = V c main_arg9 := by
  funext i
  unfold blk
  rw [View.read_apply]
  refine congrArg (V c main_arg9) (Shape.idx_ext₂ ?_ ?_)
  · show win1_7.index t 0 * 1000 + 1 * (i 0).val = (i 0).val; rw [(at_start t).2.2.2.2.2.2.2.1.1]; omega
  · show win1_7.index t 1 * 500 + 1 * (i 1).val = (i 1).val; rw [(at_start t).2.2.2.2.2.2.2.1.2]; omega

theorem block_8 (c : Dev nD) (t : Fin cfg1.N) : (blk V c 8 t : Mat 1 500) = V c main_v5 := by
  funext i
  unfold blk
  rw [View.read_apply]
  refine congrArg (V c main_v5) (Shape.idx_ext₂ ?_ ?_)
  · show win1_8.index t 0 * 1 + 1 * (i 0).val = (i 0).val; rw [(at_start t).2.2.2.2.2.2.2.2.1.1]; omega
  · show win1_8.index t 1 * 500 + 1 * (i 1).val = (i 1).val; rw [(at_start t).2.2.2.2.2.2.2.2.1.2]; omega

/-! ## What the call leaves -/

/-- The kernel's result, of the arrays as it finds them. -/
def both (c : Dev nD) : Mat 1024 2500 :=
  heads (F := Ideal) (V c main_v6) (V c main_arg3) (V c main_v1) (V c main_arg5) (V c main_v2) (V c main_v3) (V c main_v4) (V c main_arg9) (V c main_v5)

/-- The one write-back writes it. -/
theorem flushed_eq (c : Dev nD) (t : Fin cfg1.N) (hf : (cfg1.win 9).flush t = true) :
    (dat V c).flushed 9 t = ((cfg1.win 9).blk t).view.read (Elt Ideal) (both V c) := by
  show (cfg1.win 9).cut (grid1.coords t) ((dat V c).after 9 t) = _
  rw [after_9]
  unfold result
  rw [block_0, block_1, block_2, block_3, block_4, block_5, block_6, block_7, block_8]
  have hz : (fun a => win1_9.index t a * main_v7.ty.shape.size a) = fun _ => 0 := by
    funext a
    match a with
    | ⟨0, _⟩ => show win1_9.index t 0 * _ = 0; rw [(at_start t).2.2.2.2.2.2.2.2.2.1, Nat.zero_mul]
    | ⟨1, _⟩ => show win1_9.index t 1 * _ = 0; rw [(at_start t).2.2.2.2.2.2.2.2.2.2, Nat.zero_mul]
  exact (Memref.read_access_unit_zero (Elt Ideal) main_v7 hz (fun a => by rw [congrFun hz a]; simp) (both V c)).symm

/-- So the output array ends holding it. -/
theorem final_o (c : Dev nD) : (dat V c).arrAt 9 cfg1.N = both V c :=
  (dat V c).arrAt_eq_of_cover 9 (both V c) (flushed_eq V c) fun i =>
    ⟨⟨0, by decide⟩, (by decide +kernel : ∀ t : Fin cfg1.N, (cfg1.win 9).flush t = true) _, by
      generalize (⟨0, by decide⟩ : Fin cfg1.N) = t
      show i ∈ ((View.whole main_v7).slice (win1_9.rect t)).set
      rw [View.set_slice_whole, Rect.mem_set_unit]
      intro a
      have h0 : (i 0 : Nat) < 1024 := (i 0).isLt
      have h1 : (i 1 : Nat) < 2500 := (i 1).isLt
      match a with
      | ⟨0, _⟩ => show win1_9.index t 0 * 1024 ≤ (i 0 : Nat) ∧ (i 0 : Nat) < win1_9.index t 0 * 1024 + 1024
                  rw [(at_start t).2.2.2.2.2.2.2.2.2.1]; omega
      | ⟨1, _⟩ => show win1_9.index t 1 * 2500 ≤ (i 1 : Nat) ∧ (i 1 : Nat) < win1_9.index t 1 * 2500 + 2500
                  rw [(at_start t).2.2.2.2.2.2.2.2.2.2]; omega⟩

end Cert.KernelIdeal.Heads
-- ==== Proof.Value.lean ====
/-
  What the idealised kernel leaves in the result's buffer: the network of the arguments. The host's reshapes turn each
  bias and scale into a matrix of one row, the first call leaves the first layer, and the second call leaves the two
  heads over it.
-/
module

public import proofs.«01_k».proof.Proof.LaunchIdeal
public import proofs.«01_k».proof.Proof.MatmulValue
public import proofs.«01_k».proof.Proof.HeadsValue

@[expose] public section

set_option maxRecDepth 16384

noncomputable section

namespace Cert.KernelIdeal.Run

open Cert.KernelIdeal Cert.KernelIdeal.Gen Cert.Network
open Idealize.ShloMosaic Idealize.ShloMosaic.TcCoe Idealize.ShloMosaic.ValueIdx Idealize.SL.Sem

/-- A vector recast as a matrix of one row, read at an entry of that row. -/
theorem cast_entry {n : ℕ} (v : Row n) (h : (⟨1, ![n]⟩ : Shape).ShapeCasts ⟨2, ![1, n]⟩) (q : Fin n) :
    shapeCast (⟨2, ![1, n]⟩ : Shape) v h (ix2 (0 : Fin 1) q) = v (ix1 q) := by
  refine (shapeCast_addUnit_apply ![n] v h (ix2 (0 : Fin 1) q)).trans (congrArg v ?_)
  funext a
  match a with
  | ⟨0, _⟩ => rfl

variable (m : (ℓ : Loc nD τ sig) → Buf (Elt Ideal) ℓ)

/-! ## The reshaped biases and scales -/

/-- The first layer's bias as the calls find it: the argument's entries on one row. -/
theorem found_v0 (c : Dev nD) (q : Fin 2000) :
    (found m c main_v0 : Mat 1 2000) (ix2 (0 : Fin 1) q) = (m ((c.tc : Thread nD τ).loc main_arg2) : Row 2000) (ix1 q) := by
  have e : (found m c main_v0 : Mat 1 2000) = shapeCast S1x2000 (m ((c.tc : Thread nD τ).loc main_arg2) : Row 2000) shapeCasts_S2000_S1x2000 := by
    show StableHlo.after hostOps0 (V0 m c) (Proc.devRef .tc main_v0) = _
    after_results
    rfl
  rw [e]
  exact cast_entry _ _ q

/-- The second layer's bias as the calls find it: the argument's entries on one row. -/
theorem found_v1 (c : Dev nD) (q : Fin 1000) :
    (found m c main_v1 : Mat 1 1000) (ix2 (0 : Fin 1) q) = (m ((c.tc : Thread nD τ).loc main_arg4) : Row 1000) (ix1 q) := by
  have e : (found m c main_v1 : Mat 1 1000) = shapeCast S1x1000 (m ((c.tc : Thread nD τ).loc main_arg4) : Row 1000) shapeCasts_S1000_S1x1000 := by
    show StableHlo.after hostOps0 (V0 m c) (Proc.devRef .tc main_v1) = _
    after_results
    rfl
  rw [e]
  exact cast_entry _ _ q

/-- The class head's bias as the calls find it: the argument's entries on one row. -/
theorem found_v2 (c : Dev nD) (q : Fin 2000) :
    (found m c main_v2 : Mat 1 2000) (ix2 (0 : Fin 1) q) = (m ((c.tc : Thread nD τ).loc main_arg6) : Row 2000) (ix1 q) := by
  have e : (found m c main_v2 : Mat 1 2000) = shapeCast S1x2000 (m ((c.tc : Thread nD τ).loc main_arg6) : Row 2000) shapeCasts_S2000_S1x2000 := by
    show StableHlo.after hostOps0 (V0 m c) (Proc.devRef .tc main_v2) = _
    after_results
    rfl
  rw [e]
  exact cast_entry _ _ q

/-- The regression scale as the calls find it: the argument's entries on one row. -/
theorem found_v3 (c : Dev nD) (q : Fin 1000) :
    (found m c main_v3 : Mat 1 1000) (ix2 (0 : Fin 1) q) = (m ((c.tc : Thread nD τ).loc main_arg7) : Row 1000) (ix1 q) := by
  have e : (found m c main_v3 : Mat 1 1000) = shapeCast S1x1000 (m ((c.tc : Thread nD τ).loc main_arg7) : Row 1000) shapeCasts_S1000_S1x1000 := by
    show StableHlo.after hostOps0 (V0 m c) (Proc.devRef .tc main_v3) = _
    after_results
    rfl
  rw [e]
  exact cast_entry _ _ q

/-- The regression shift as the calls find it: the argument's entries on one row. -/
theorem found_v4 (c : Dev nD) (q : Fin 1000) :
    (found m c main_v4 : Mat 1 1000) (ix2 (0 : Fin 1) q) = (m ((c.tc : Thread nD τ).loc main_arg8) : Row 1000) (ix1 q) := by
  have e : (found m c main_v4 : Mat 1 1000) = shapeCast S1x1000 (m ((c.tc : Thread nD τ).loc main_arg8) : Row 1000) shapeCasts_S1000_S1x1000 := by
    show StableHlo.after hostOps0 (V0 m c) (Proc.devRef .tc main_v4) = _
    after_results
    rfl
  rw [e]
  exact cast_entry _ _ q

/-- The regression head's bias as the calls find it: the argument's entries on one row. -/
theorem found_v5 (c : Dev nD) (q : Fin 500) :
    (found m c main_v5 : Mat 1 500) (ix2 (0 : Fin 1) q) = (m ((c.tc : Thread nD τ).loc main_arg10) : Row 500) (ix1 q) := by
  have e : (found m c main_v5 : Mat 1 500) = shapeCast S1x500 (m ((c.tc : Thread nD τ).loc main_arg10) : Row 500) shapeCasts_S500_S1x500 := by
    show StableHlo.after hostOps0 (V0 m c) (Proc.devRef .tc main_v5) = _
    after_results
    rfl
  rw [e]
  exact cast_entry _ _ q

/-- An argument as the calls find it: as launched. -/
theorem found_arg (c : Dev nD) (b : Ref sig .tc) (h : b ∉ hostOps0_W) : found m c b = m ((c.tc : Thread nD τ).loc b) :=
  (V1_of m c b h).trans rfl

/-! ## The two calls -/

/-- The first call leaves the first layer of the arguments. -/
theorem hidden_eq (c : Dev nD) : Matmul.hidden (found m) c
    = layer1 (m ((c.tc : Thread nD τ).loc main_arg0)) (m ((c.tc : Thread nD τ).loc main_arg1)) (m ((c.tc : Thread nD τ).loc main_arg2)) := by
  funext i
  obtain ⟨r, q, rfl⟩ : ∃ (r : Fin 1024) (q : Fin 2000), i = ix2 r q := ⟨i 0, i 1, eq_ix2 i⟩
  have e0 : Matmul.lhs (found m) c = m ((c.tc : Thread nD τ).loc main_arg0) := found_arg m c main_arg0 (by decide)
  have e1 : Matmul.rhs (found m) c = m ((c.tc : Thread nD τ).loc main_arg1) := found_arg m c main_arg1 (by decide)
  have e2 : Matmul.bias (found m) c (ix2 (0 : Fin 1) q) = (m ((c.tc : Thread nD τ).loc main_arg2) : Row 2000) (ix1 q) := found_v0 m c q
  rw [Matmul.hidden_entry, e0, e1, e2]
  rfl

/-- The arguments through the network. -/
def value (c : Dev nD) : Mat 1024 2500 :=
  network (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The result's buffer ends at the arguments through the network. -/
theorem final_value (c : Dev nD) : final m c main_v7 = value m c := by
  have e6 : middle m c main_v6
      = layer1 (m ((c.tc : Thread nD τ).loc main_arg0)) (m ((c.tc : Thread nD τ).loc main_arg1)) (m ((c.tc : Thread nD τ).loc main_arg2)) :=
    (middle_out m c).trans ((Matmul.final_o (found m) c).trans (hidden_eq m c))
  have k (b : Ref sig .tc) (hb : b ≠ main_v6) (h : b ∉ hostOps0_W) : middle m c b = m ((c.tc : Thread nD τ).loc b) :=
    (middle_of m c b hb).trans (found_arg m c b h)
  have e3 := k main_arg3 (by decide) (by decide)
  have e5 := k main_arg5 (by decide) (by decide)
  have e9 := k main_arg9 (by decide) (by decide)
  refine (final_out m c).trans ((Heads.final_o (middle m) c).trans ?_)
  refine (Heads.heads_eq _ _ _ _ _ _ _ _ _ (m ((c.tc : Thread nD τ).loc main_arg4)) (m ((c.tc : Thread nD τ).loc main_arg6))
    (m ((c.tc : Thread nD τ).loc main_arg7)) (m ((c.tc : Thread nD τ).loc main_arg8)) (m ((c.tc : Thread nD τ).loc main_arg10))
    (fun q => ?_) (fun q => ?_) (fun q => ?_) (fun q => ?_) (fun q => ?_)).trans ?_
  · rw [middle_of m c main_v1 (by decide)]; exact found_v1 m c q
  · rw [middle_of m c main_v2 (by decide)]; exact found_v2 m c q
  · rw [middle_of m c main_v3 (by decide)]; exact found_v3 m c q
  · rw [middle_of m c main_v4 (by decide)]; exact found_v4 m c q
  · rw [middle_of m c main_v5 (by decide)]; exact found_v5 m c q
  · rw [e6, e3, e5, e9]
    rfl

end Cert.KernelIdeal.Run
-- ==== Proof.RefValue.lean ====
/-
  What the reference returns, over the extended reals, read as the network: each of its dense layers is a host product
  plus a bias laid along the rows, its two masks keep one half of the columns each, and its heads' outputs are
  concatenated.
-/
module

public import proofs.«01_k».proof.Proof.Gen.ReferenceIdeal.Run
public import proofs.«01_k».proof.Proof.Network
public import Idealize.ShloMosaic.Lib.StackMember

@[expose] public section

set_option maxRecDepth 16384

noncomputable section

namespace Cert.ReferenceIdeal.Net

open Cert.ReferenceIdeal Cert.ReferenceIdeal.Gen Cert.Network
open Idealize.ShloMosaic Idealize.ShloMosaic.TcCoe Idealize.ShloMosaic.ValueIdx Idealize.SL.Sem

/-! ## The reference's operations, at an entry -/

/-- A vector laid along every row, read at an entry. -/
theorem row_entry {m n : ℕ} (hn : n ≠ 1) (b : Row n) (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply]
  exact broadcastInDim_apply ![1] h1 b (ix2 (0 : Fin 1) q) (ix1 q) (fun a => match a with
    | ⟨0, _⟩ => by show q.val = if n = 1 then 0 else q.val; rw [if_neg hn])

/-- An affine layer, read at an entry. -/
theorem affine_entry {m k n : ℕ} (hn : n ≠ 1) (x : Mat m k) (w : Mat k n) (b : Row n) (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    addf (Host.dotGeneral (F := Ideal) (φ₁ := .f32) (φ₂ := .f32) (DotDims.plain m k n) none x w)
      (broadcastInDim ⟨2, ![m, n]⟩ ![0, 1] h2 (broadcastInDim ⟨2, ![1, n]⟩ ![1] h1 b)) (ix2 r q) = affine x w b r q := by
  show (Host.dotGeneral (F := Ideal) (φ₁ := .f32) (φ₂ := .f32) (DotDims.plain m k n) none x w (ix2 r q) : EReal)
    + broadcastInDim ⟨2, ![m, n]⟩ ![0, 1] h2 (broadcastInDim ⟨2, ![1, n]⟩ ![1] h1 b) (ix2 r q) = _
  rw [StackMember.dotGeneral_plain_apply, row_entry hn]
  rfl

/-- The zero constant laid over a matrix, read at an entry. -/
theorem zero_entry {T : Shape} (h : (⟨0, ![]⟩ : Shape).BroadcastsInDim T ![]) (i : T.Idx) :
    broadcastInDim T ![] h (constant (F := Ideal) ⟨0, ![]⟩ .f32 0x00000000#32) i = (0 : EReal) := by
  rw [broadcastInDim_scalar_apply]
  exact Ideal.ofBits_zero_f32

/-- The one constant laid over a matrix, read at an entry. -/
theorem one_entry {T : Shape} (h : (⟨0, ![]⟩ : Shape).BroadcastsInDim T ![]) (i : T.Idx) :
    broadcastInDim T ![] h (constant (F := Ideal) ⟨0, ![]⟩ .f32 0x3F800000#32) i = (1 : EReal) := by
  rw [broadcastInDim_scalar_apply]
  exact Ideal.ofBits_one_f32

/-- Two vectors of 500 entries end to end, read at an entry. -/
theorem joined_entry (x y : Row 500) (q : Fin 1000) :
    concatenate S1000 0 [⟨S500, x⟩, ⟨S500, y⟩] concatenates_S500_S500_S1000_d0 (ix1 q)
      = if h : q.val < 500 then x (ix1 ⟨q.val, h⟩) else y (ix1 ⟨q.val - 500, by omega⟩) := by
  by_cases h : q.val < 500
  · rw [dif_pos h]
    exact concatenate_pair_apply_left (t := S1000) (s₁ := S500) (s₂ := S500) 0 x y _ (ix1 q) rfl (ix1 ⟨q.val, h⟩)
      (fun b => match b with | ⟨0, _⟩ => rfl)
  · rw [dif_neg h]
    exact concatenate_pair_apply_right (t := S1000) (s₁ := S500) (s₂ := S500) 0 x y _ (ix1 q) rfl rfl (ix1 ⟨q.val - 500, by omega⟩)
      (fun b hb => match b with | ⟨0, _⟩ => absurd rfl hb)
      (by show q.val - 500 + 500 = q.val; omega)

/-- The mask that keeps the first 500 columns. -/
def classMask : Mat 1024 1000 :=
  broadcastInDim S1024x1000 ![0, 1] bcast_S1x1000_S1024x1000_0_1 (broadcastInDim S1x1000 ![1] bcast_S1000_S1x1000_1 (concatenate S1000 0 [⟨S500, (broadcastInDim S500 ![] bcast_S_S500 (constant S_ .f32 0x3F800000#32))⟩, ⟨S500, (broadcastInDim S500 ![] bcast_S_S500 (constant S_ .f32 0x00000000#32))⟩] concatenates_S500_S500_S1000_d0))

/-- The mask that keeps the last 500 columns. -/
def regMask : Mat 1024 1000 :=
  broadcastInDim S1024x1000 ![0, 1] bcast_S1x1000_S1024x1000_0_1 (broadcastInDim S1x1000 ![1] bcast_S1000_S1x1000_1 (concatenate S1000 0 [⟨S500, (broadcastInDim S500 ![] bcast_S_S500 (constant S_ .f32 0x00000000#32))⟩, ⟨S500, (broadcastInDim S500 ![] bcast_S_S500 (constant S_ .f32 0x3F800000#32))⟩] concatenates_S500_S500_S1000_d0))

/-- Multiplying by the first mask keeps the first 500 columns and clears the others. -/
theorem classMask_entry (g : Mat 1024 1000) (i : S1024x1000.Idx) : (g i * classMask i : EReal) = if (i 1).val < 500 then g i else 0 := by
  obtain ⟨r, q, rfl⟩ : ∃ (r : Fin 1024) (q : Fin 1000), i = ix2 r q := ⟨i 0, i 1, eq_ix2 i⟩
  unfold classMask
  rw [row_entry (by decide), joined_entry]
  show _ = if q.val < 500 then g (ix2 r q) else 0
  by_cases h : q.val < 500
  · rw [dif_pos h, if_pos h, one_entry, mul_one]
  · rw [dif_neg h, if_neg h, zero_entry, mul_zero]

/-- Multiplying by the second mask keeps the last 500 columns and clears the others. -/
theorem regMask_entry (g : Mat 1024 1000) (i : S1024x1000.Idx) : (g i * regMask i : EReal) = if 500 ≤ (i 1).val then g i else 0 := by
  obtain ⟨r, q, rfl⟩ : ∃ (r : Fin 1024) (q : Fin 1000), i = ix2 r q := ⟨i 0, i 1, eq_ix2 i⟩
  unfold regMask
  rw [row_entry (by decide), joined_entry]
  show _ = if 500 ≤ q.val then g (ix2 r q) else 0
  by_cases h : q.val < 500
  · rw [dif_pos h, if_neg (by omega), zero_entry, mul_zero]
  · rw [dif_neg h, if_pos (by omega), one_entry, mul_one]

/-! ## The layers -/

/-- The first layer. -/
theorem first_eq (a0 : Mat 1024 32000) (a1 : Mat 32000 2000) (a2 : Row 2000) :
    maximumf (F := Ideal) (φ := .f32) (addf (Host.dotGeneral dot_S1024x32000_S32000x2000_S1024x2000_1_0_0_1_n_n none a0 a1) (broadcastInDim S1024x2000 ![0, 1] bcast_S1x2000_S1024x2000_0_1 (broadcastInDim S1x2000 ![1] bcast_S2000_S1x2000_1 a2))) (broadcastInDim S1024x2000 ![] bcast_S_S1024x2000 (constant S_ .f32 0x00000000#32)) = layer1 a0 a1 a2 := by
  funext i
  obtain ⟨r, q, rfl⟩ : ∃ (r : Fin 1024) (q : Fin 2000), i = ix2 r q := ⟨i 0, i 1, eq_ix2 i⟩
  exact congrArg₂ (fun u v : EReal => max u v) (affine_entry (by decide) a0 a1 a2 bcast_S2000_S1x2000_1 bcast_S1x2000_S1024x2000_0_1 r q) (zero_entry _ _)

/-- The second layer. -/
theorem second_eq (h : Mat 1024 2000) (a3 : Mat 2000 1000) (a4 : Row 1000) :
    addf (Host.dotGeneral dot_S1024x2000_S2000x1000_S1024x1000_1_0_0_1_n_n none h a3) (broadcastInDim S1024x1000 ![0, 1] bcast_S1x1000_S1024x1000_0_1 (broadcastInDim S1x1000 ![1] bcast_S1000_S1x1000_1 a4)) = layer2 h a3 a4 := by
  funext i
  obtain ⟨r, q, rfl⟩ : ∃ (r : Fin 1024) (q : Fin 1000), i = ix2 r q := ⟨i 0, i 1, eq_ix2 i⟩
  exact affine_entry (by decide) h a3 a4 bcast_S1000_S1x1000_1 bcast_S1x1000_S1024x1000_0_1 r q

/-- The class head's input. -/
theorem classIn_eq (g : Mat 1024 1000) :
    maximumf (mulf g classMask) (broadcastInDim S1024x1000 ![] bcast_S_S1024x1000 (constant S_ .f32 0x00000000#32)) = classIn g := by
  funext i
  exact congrArg₂ (fun u v : EReal => max u v) (classMask_entry g i) (zero_entry _ _)

/-- The regression head's input. -/
theorem regIn_eq (g : Mat 1024 1000) (a7 a8 : Row 1000) :
    Host.tanh (addf (mulf (mulf g regMask) (broadcastInDim S1024x1000 ![0, 1] bcast_S1x1000_S1024x1000_0_1 (broadcastInDim S1x1000 ![1] bcast_S1000_S1x1000_1 a7))) (broadcastInDim S1024x1000 ![0, 1] bcast_S1x1000_S1024x1000_0_1 (broadcastInDim S1x1000 ![1] bcast_S1000_S1x1000_1 a8))) = regIn g a7 a8 := by
  funext i
  obtain ⟨r, q, rfl⟩ : ∃ (r : Fin 1024) (q : Fin 1000), i = ix2 r q := ⟨i 0, i 1, eq_ix2 i⟩
  have e : (g (ix2 r q) * regMask (ix2 r q)
      * broadcastInDim S1024x1000 ![0, 1] bcast_S1x1000_S1024x1000_0_1 (broadcastInDim S1x1000 ![1] bcast_S1000_S1x1000_1 a7) (ix2 r q)
      + broadcastInDim S1024x1000 ![0, 1] bcast_S1x1000_S1024x1000_0_1 (broadcastInDim S1x1000 ![1] bcast_S1000_S1x1000_1 a8) (ix2 r q) : EReal)
      = (if 500 ≤ q.val then g (ix2 r q) else 0) * a7 (ix1 q) + a8 (ix1 q) := by
    rw [regMask_entry, row_entry (by decide) a7, row_entry (by decide) a8]
  exact congrArg Ideal.tanh e

/-- The two heads side by side. -/
theorem outputs_eq (g : Mat 1024 1000) (a5 : Mat 1000 2000) (a6 : Row 2000) (a7 a8 : Row 1000) (a9 : Mat 1000 500) (a10 : Row 500) :
    concatenate S1024x2500 1 [⟨S1024x2000, (addf (Host.dotGeneral dot_S1024x1000_S1000x2000_S1024x2000_1_0_0_1_n_n none (maximumf (mulf g classMask) (broadcastInDim S1024x1000 ![] bcast_S_S1024x1000 (constant S_ .f32 0x00000000#32))) a5) (broadcastInDim S1024x2000 ![0, 1] bcast_S1x2000_S1024x2000_0_1 (broadcastInDim S1x2000 ![1] bcast_S2000_S1x2000_1 a6)))⟩, ⟨S1024x500, (addf (Host.dotGeneral dot_S1024x1000_S1000x500_S1024x500_1_0_0_1_n_n none (Host.tanh (addf (mulf (mulf g regMask) (broadcastInDim S1024x1000 ![0, 1] bcast_S1x1000_S1024x1000_0_1 (broadcastInDim S1x1000 ![1] bcast_S1000_S1x1000_1 a7))) (broadcastInDim S1024x1000 ![0, 1] bcast_S1x1000_S1024x1000_0_1 (broadcastInDim S1x1000 ![1] bcast_S1000_S1x1000_1 a8)))) a9) (broadcastInDim S1024x500 ![0, 1] bcast_S1x500_S1024x500_0_1 (broadcastInDim S1x500 ![1] bcast_S500_S1x500_1 a10)))⟩] concatenates_S1024x2000_S1024x500_S1024x2500_d1
      = outputs g a5 a6 a7 a8 a9 a10 := by
  rw [classIn_eq, regIn_eq]
  funext i
  obtain ⟨r, q, rfl⟩ : ∃ (r : Fin 1024) (q : Fin 2500), i = ix2 r q := ⟨i 0, i 1, eq_ix2 i⟩
  unfold outputs
  by_cases h : q.val < 2000
  · rw [dif_pos (show ((ix2 r q : (⟨2, ![1024, 2500]⟩ : Shape).Idx) 1).val < 2000 from h)]
    refine (concatenate_pair_apply_left (t := S1024x2500) (s₁ := S1024x2000) (s₂ := S1024x500) 1 _ _ _ (ix2 r q) rfl (ix2 r ⟨q.val, h⟩)
      (fun b => match b with | ⟨0, _⟩ => rfl | ⟨1, _⟩ => rfl)).trans ?_
    exact affine_entry (by decide) (classIn g) a5 a6 bcast_S2000_S1x2000_1 bcast_S1x2000_S1024x2000_0_1 r ⟨q.val, h⟩
  · rw [dif_neg (show ¬((ix2 r q : (⟨2, ![1024, 2500]⟩ : Shape).Idx) 1).val < 2000 from h)]
    refine (concatenate_pair_apply_right (t := S1024x2500) (s₁ := S1024x2000) (s₂ := S1024x500) 1 _ _ _ (ix2 r q) rfl rfl (ix2 r ⟨q.val - 2000, by omega⟩)
      (fun b hb => match b with | ⟨0, _⟩ => rfl | ⟨1, _⟩ => absurd rfl hb)
      (by show q.val - 2000 + 2000 = q.val; omega)).trans ?_
    exact affine_entry (by decide) (regIn g a7 a8) a9 a10 bcast_S500_S1x500_1 bcast_S1x500_S1024x500_0_1 r ⟨q.val - 2000, by omega⟩

/-- The reference's whole term is the network of its arguments. -/
theorem term_eq (a0 : Mat 1024 32000) (a1 : Mat 32000 2000) (a2 : Row 2000) (a3 : Mat 2000 1000) (a4 : Row 1000) (a5 : Mat 1000 2000) (a6 : Row 2000)
    (a7 a8 : Row 1000) (a9 : Mat 1000 500) (a10 : Row 500) :
    concatenate S1024x2500 1 [⟨S1024x2000, (addf (Host.dotGeneral dot_S1024x1000_S1000x2000_S1024x2000_1_0_0_1_n_n none (maximumf (mulf (addf (Host.dotGeneral dot_S1024x2000_S2000x1000_S1024x1000_1_0_0_1_n_n none (maximumf (F := Ideal) (φ := .f32) (addf (Host.dotGeneral dot_S1024x32000_S32000x2000_S1024x2000_1_0_0_1_n_n none a0 a1) (broadcastInDim S1024x2000 ![0, 1] bcast_S1x2000_S1024x2000_0_1 (broadcastInDim S1x2000 ![1] bcast_S2000_S1x2000_1 a2))) (broadcastInDim S1024x2000 ![] bcast_S_S1024x2000 (constant S_ .f32 0x00000000#32))) a3) (broadcastInDim S1024x1000 ![0, 1] bcast_S1x1000_S1024x1000_0_1 (broadcastInDim S1x1000 ![1] bcast_S1000_S1x1000_1 a4))) (broadcastInDim S1024x1000 ![0, 1] bcast_S1x1000_S1024x1000_0_1 (broadcastInDim S1x1000 ![1] bcast_S1000_S1x1000_1 (concatenate S1000 0 [⟨S500, (broadcastInDim S500 ![] bcast_S_S500 (constant S_ .f32 0x3F800000#32))⟩, ⟨S500, (broadcastInDim S500 ![] bcast_S_S500 (constant S_ .f32 0x00000000#32))⟩] concatenates_S500_S500_S1000_d0)))) (broadcastInDim S1024x1000 ![] bcast_S_S1024x1000 (constant S_ .f32 0x00000000#32))) a5) (broadcastInDim S1024x2000 ![0, 1] bcast_S1x2000_S1024x2000_0_1 (broadcastInDim S1x2000 ![1] bcast_S2000_S1x2000_1 a6)))⟩, ⟨S1024x500, (addf (Host.dotGeneral dot_S1024x1000_S1000x500_S1024x500_1_0_0_1_n_n none (Host.tanh (addf (mulf (mulf (addf (Host.dotGeneral dot_S1024x2000_S2000x1000_S1024x1000_1_0_0_1_n_n none (maximumf (F := Ideal) (φ := .f32) (addf (Host.dotGeneral dot_S1024x32000_S32000x2000_S1024x2000_1_0_0_1_n_n none a0 a1) (broadcastInDim S1024x2000 ![0, 1] bcast_S1x2000_S1024x2000_0_1 (broadcastInDim S1x2000 ![1] bcast_S2000_S1x2000_1 a2))) (broadcastInDim S1024x2000 ![] bcast_S_S1024x2000 (constant S_ .f32 0x00000000#32))) a3) (broadcastInDim S1024x1000 ![0, 1] bcast_S1x1000_S1024x1000_0_1 (broadcastInDim S1x1000 ![1] bcast_S1000_S1x1000_1 a4))) (broadcastInDim S1024x1000 ![0, 1] bcast_S1x1000_S1024x1000_0_1 (broadcastInDim S1x1000 ![1] bcast_S1000_S1x1000_1 (concatenate S1000 0 [⟨S500, (broadcastInDim S500 ![] bcast_S_S500 (constant S_ .f32 0x00000000#32))⟩, ⟨S500, (broadcastInDim S500 ![] bcast_S_S500 (constant S_ .f32 0x3F800000#32))⟩] concatenates_S500_S500_S1000_d0)))) (broadcastInDim S1024x1000 ![0, 1] bcast_S1x1000_S1024x1000_0_1 (broadcastInDim S1x1000 ![1] bcast_S1000_S1x1000_1 a7))) (broadcastInDim S1024x1000 ![0, 1] bcast_S1x1000_S1024x1000_0_1 (broadcastInDim S1x1000 ![1] bcast_S1000_S1x1000_1 a8)))) a9) (broadcastInDim S1024x500 ![0, 1] bcast_S1x500_S1024x500_0_1 (broadcastInDim S1x500 ![1] bcast_S500_S1x500_1 a10)))⟩] concatenates_S1024x2000_S1024x500_S1024x2500_d1
      = network a0 a1 a2 a3 a4 a5 a6 a7 a8 a9 a10 := by
  rw [first_eq, second_eq]
  exact outputs_eq (layer2 (layer1 a0 a1 a2) a3 a4) a5 a6 a7 a8 a9 a10

/-! ## The result -/

/-- The reference's arguments, as launched, through the network. -/
def value (m : (ℓ : Loc nD τ sig) → Buf (Elt Ideal) ℓ) (c : Dev nD) : Mat 1024 2500 :=
  network (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

end Cert.ReferenceIdeal.Net
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.Value
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's frame: its run, from any memory, at the machine's numbers. -/
theorem frame_p : Cert.quiescent_Kernel := fun m ρ _ => Cert.Kernel.Run.frame m ρ

/-- The idealised kernel's frame: the same run over the extended reals. -/
theorem frame_pi : Cert.quiescent_KernelIdeal := fun m ρ _ => Cert.KernelIdeal.Run.frame m ρ

/-- The reference's frame: its host run read at the arguments; it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From memories that agree on the arguments, the reference's network is the idealised kernel's. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Net.value m' c = Cert.KernelIdeal.Run.value m c := by
  obtain ⟨h0, h1, h2, h3, h4, h5, h6, h7, h8, h9, h10⟩ := h
  unfold Cert.ReferenceIdeal.Net.value Cert.KernelIdeal.Run.value
  rw [h0, h1, h2, h3, h4, h5, h6, h7, h8, h9, h10]

/-- The idealised kernel and the reference, from memories that agree on the arguments, both end with the network of the
    arguments in the result's buffer, and with the arguments as launched. -/
theorem algebraic : Cert.algebraic_KernelIdeal_ReferenceIdeal := fun m g m' g' _ hag =>
  ⟨Cert.KernelIdeal.Run.value m,
    (θ_run Cert.KernelIdeal.defs _ _).mono (fun r h c => by
      have k (b : Ref Cert.KernelIdeal.sig .tc) (hs : b.isScoped = false) (h7 : b ≠ Cert.KernelIdeal.main_v7) (h6 : b ≠ Cert.KernelIdeal.main_v6)
          (hw : b ∉ Cert.KernelIdeal.Gen.hostOps0_W) :
          r.2.mem ((c.tc : Thread Cert.KernelIdeal.nD Cert.KernelIdeal.τ).loc b) = m ((c.tc : Thread Cert.KernelIdeal.nD Cert.KernelIdeal.τ).loc b) :=
        (h.1 c _ (Cert.KernelIdeal.Run.mem_kept b hs)).trans (Cert.KernelIdeal.Run.final_arg m c b h7 h6 hw)
      refine ⟨(h.1 c _ (Cert.KernelIdeal.Run.mem_kept Cert.KernelIdeal.main_v7 (by decide))).trans (Cert.KernelIdeal.Run.final_value m c),
        ?_, ?_, ?_, ?_, ?_, ?_, ?_, ?_, ?_, ?_, ?_⟩ <;>
        exact k _ (by decide) (by decide) (by decide) (by decide)) (Cert.KernelIdeal.Run.run (F := Ideal) m g),
    (θ_run Cert.ReferenceIdeal.defs _ _).mono (fun r h c =>
      ⟨(h c).1.trans ((Cert.ReferenceIdeal.Net.term_eq _ _ _ _ _ _ _ _ _ _ _).trans (values_agree m m' c (hag c))), (h c).2⟩)
      (Cert.ReferenceIdeal.Value.run (F := Ideal) m' g')⟩

/-- The claim, part by part. -/
theorem claim : Cert.Claim := ⟨Cert.Kernel.Gen.facts, Cert.KernelIdeal.Gen.facts, Cert.ReferenceIdeal.Gen.facts,
  frame_p, frame_pi, frame_ri, trivial, algebraic⟩

end Cert.Proof

end
